-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x32 : Shape := ⟨2, ![16384, 32]⟩
abbrev S16384x50 : Shape := ⟨2, ![16384, 50]⟩
abbrev S16384x50x4 : Shape := ⟨3, ![16384, 50, 4]⟩
abbrev S282x256 : Shape := ⟨2, ![282, 256]⟩
abbrev S256 : Shape := ⟨1, ![256]⟩
abbrev S256x50 : Shape := ⟨2, ![256, 50]⟩
abbrev S50 : Shape := ⟨1, ![50]⟩
abbrev S16384x200 : Shape := ⟨2, ![16384, 200]⟩
abbrev S32x256 : Shape := ⟨2, ![32, 256]⟩
abbrev S50x256 : Shape := ⟨2, ![50, 256]⟩
abbrev S200x256 : Shape := ⟨2, ![200, 256]⟩
abbrev S_ : Shape := ⟨0, ![]⟩
abbrev S1 : Shape := ⟨1, ![1]⟩
abbrev S2 : Shape := ⟨1, ![2]⟩
abbrev S1x1 : Shape := ⟨2, ![1, 1]⟩
abbrev S16384x51 : Shape := ⟨2, ![16384, 51]⟩
abbrev S1x256 : Shape := ⟨2, ![1, 256]⟩
abbrev S1x50 : Shape := ⟨2, ![1, 50]⟩
abbrev S16384x1 : Shape := ⟨2, ![16384, 1]⟩
abbrev S1024x32 : Shape := ⟨2, ![1024, 32]⟩
abbrev S1024x50 : Shape := ⟨2, ![1024, 50]⟩
abbrev S1024x200 : Shape := ⟨2, ![1024, 200]⟩
abbrev S1024x1 : Shape := ⟨2, ![1024, 1]⟩
abbrev S1024x256 : Shape := ⟨2, ![1024, 256]⟩
abbrev S1024 : Shape := ⟨1, ![1024]⟩

abbrev nBuf : Space → Nat
  | .hbm => 292
  | .vmem => 16
  | .smem => 0
  | _ => 0

abbrev hbmTy0_0 (i : Nat) : BufTy := match i % 128 with
  | 0 => ⟨S16384x32, .f32⟩
  | 1 => ⟨S16384x50, .f32⟩
  | 2 => ⟨S16384x50x4, .f32⟩
  | 3 => ⟨S282x256, .f32⟩
  | 4 => ⟨S256, .f32⟩
  | 5 => ⟨S256x50, .f32⟩
  | 6 => ⟨S50, .f32⟩
  | 7 => ⟨S16384x200, .f32⟩
  | 8 => ⟨S32x256, .f32⟩
  | 9 => ⟨S50x256, .f32⟩
  | 10 => ⟨S200x256, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S16384x51, .i64⟩
  | 31 => ⟨S16384x51, .i64⟩
  | 32 => ⟨S_, .i64⟩
  | 33 => ⟨S16384x51, .i64⟩
  | 34 => ⟨S16384x51, .i64⟩
  | 35 => ⟨S_, .i64⟩
  | 36 => ⟨S16384x51, .i64⟩
  | 37 => ⟨S16384x51, .i64⟩
  | 38 => ⟨S16384x51, .i64⟩
  | 39 => ⟨S_, .i64⟩
  | 40 => ⟨S16384x51, .i64⟩
  | 41 => ⟨S16384x51, .i64⟩
  | 42 => ⟨S16384x51, .i32⟩
  | 43 => ⟨S16384x51, .i32⟩
  | 44 => ⟨S_, .i32⟩
  | 45 => ⟨S_, .i32⟩
  | 46 => ⟨S_, .i32⟩
  | 47 => ⟨S16384x51, .i32⟩
  | 48 => ⟨S16384x51, .i32⟩
  | 49 => ⟨S16384x51, .i32⟩
  | 50 => ⟨S16384x51, .i32⟩
  | 51 => ⟨S16384x51, .i32⟩
  | 52 => ⟨S_, .i32⟩
  | 53 => ⟨S16384x51, .i32⟩
  | 54 => ⟨S16384x51, .i32⟩
  | 55 => ⟨S_, .i32⟩
  | 56 => ⟨S16384x51, .i32⟩
  | 57 => ⟨S16384x51, .i32⟩
  | 58 => ⟨S16384x51, .i32⟩
  | 59 => ⟨S16384x51, .i32⟩
  | 60 => ⟨S16384x51, .i32⟩
  | 61 => ⟨S_, .i32⟩
  | 62 => ⟨S16384x51, .i32⟩
  | 63 => ⟨S16384x51, .i32⟩
  | 64 => ⟨S_, .i32⟩
  | 65 => ⟨S16384x51, .i32⟩
  | 66 => ⟨S16384x51, .i32⟩
  | 67 => ⟨S16384x51, .i32⟩
  | 68 => ⟨S16384x51, .i32⟩
  | 69 => ⟨S16384x51, .i32⟩
  | 70 => ⟨S_, .i32⟩
  | 71 => ⟨S16384x51, .i32⟩
  | 72 => ⟨S16384x51, .i32⟩
  | 73 => ⟨S_, .i32⟩
  | 74 => ⟨S16384x51, .i32⟩
  | 75 => ⟨S16384x51, .i32⟩
  | 76 => ⟨S16384x51, .i32⟩
  | 77 => ⟨S16384x51, .i32⟩
  | 78 => ⟨S16384x51, .i32⟩
  | 79 => ⟨S_, .i32⟩
  | 80 => ⟨S16384x51, .i32⟩
  | 81 => ⟨S16384x51, .i32⟩
  | 82 => ⟨S_, .i32⟩
  | 83 => ⟨S16384x51, .i32⟩
  | 84 => ⟨S16384x51, .i32⟩
  | 85 => ⟨S16384x51, .i32⟩
  | 86 => ⟨S16384x51, .i32⟩
  | 87 => ⟨S16384x51, .i32⟩
  | 88 => ⟨S16384x51, .i32⟩
  | 89 => ⟨S16384x51, .i32⟩
  | 90 => ⟨S16384x51, .i32⟩
  | 91 => ⟨S_, .i32⟩
  | 92 => ⟨S16384x51, .i32⟩
  | 93 => ⟨S16384x51, .i32⟩
  | 94 => ⟨S16384x51, .i32⟩
  | 95 => ⟨S_, .i32⟩
  | 96 => ⟨S16384x51, .i32⟩
  | 97 => ⟨S16384x51, .i32⟩
  | 98 => ⟨S_, .i32⟩
  | 99 => ⟨S16384x51, .i32⟩
  | 100 => ⟨S16384x51, .i32⟩
  | 101 => ⟨S16384x51, .i32⟩
  | 102 => ⟨S16384x51, .i32⟩
  | 103 => ⟨S16384x51, .i32⟩
  | 104 => ⟨S_, .i32⟩
  | 105 => ⟨S16384x51, .i32⟩
  | 106 => ⟨S16384x51, .i32⟩
  | 107 => ⟨S_, .i32⟩
  | 108 => ⟨S16384x51, .i32⟩
  | 109 => ⟨S16384x51, .i32⟩
  | 110 => ⟨S16384x51, .i32⟩
  | 111 => ⟨S16384x51, .i32⟩
  | 112 => ⟨S16384x51, .i32⟩
  | 113 => ⟨S_, .i32⟩
  | 114 => ⟨S16384x51, .i32⟩
  | 115 => ⟨S16384x51, .i32⟩
  | 116 => ⟨S_, .i32⟩
  | 117 => ⟨S16384x51, .i32⟩
  | 118 => ⟨S16384x51, .i32⟩
  | 119 => ⟨S16384x51, .i32⟩
  | 120 => ⟨S16384x51, .i32⟩
  | 121 => ⟨S16384x51, .i32⟩
  | 122 => ⟨S_, .i32⟩
  | 123 => ⟨S16384x51, .i32⟩
  | 124 => ⟨S16384x51, .i32⟩
  | 125 => ⟨S_, .i32⟩
  | 126 => ⟨S16384x51, .i32⟩
  | 127 => ⟨S16384x51, .i32⟩
  | _ => ⟨S16384x32, .f32⟩

abbrev hbmTy0_1 (i : Nat) : BufTy := match i % 128 with
  | 0 => ⟨S16384x51, .i32⟩
  | 1 => ⟨S16384x51, .i32⟩
  | 2 => ⟨S16384x51, .i32⟩
  | 3 => ⟨S16384x51, .i32⟩
  | 4 => ⟨S16384x51, .i32⟩
  | 5 => ⟨S16384x51, .i32⟩
  | 6 => ⟨S_, .i32⟩
  | 7 => ⟨S16384x51, .i32⟩
  | 8 => ⟨S16384x51, .i32⟩
  | 9 => ⟨S16384x51, .i32⟩
  | 10 => ⟨S_, .i32⟩
  | 11 => ⟨S16384x51, .i32⟩
  | 12 => ⟨S16384x51, .i32⟩
  | 13 => ⟨S_, .i32⟩
  | 14 => ⟨S16384x51, .i32⟩
  | 15 => ⟨S16384x51, .i32⟩
  | 16 => ⟨S16384x51, .i32⟩
  | 17 => ⟨S16384x51, .i32⟩
  | 18 => ⟨S16384x51, .i32⟩
  | 19 => ⟨S_, .i32⟩
  | 20 => ⟨S16384x51, .i32⟩
  | 21 => ⟨S16384x51, .i32⟩
  | 22 => ⟨S_, .i32⟩
  | 23 => ⟨S16384x51, .i32⟩
  | 24 => ⟨S16384x51, .i32⟩
  | 25 => ⟨S16384x51, .i32⟩
  | 26 => ⟨S16384x51, .i32⟩
  | 27 => ⟨S16384x51, .i32⟩
  | 28 => ⟨S_, .i32⟩
  | 29 => ⟨S16384x51, .i32⟩
  | 30 => ⟨S16384x51, .i32⟩
  | 31 => ⟨S_, .i32⟩
  | 32 => ⟨S16384x51, .i32⟩
  | 33 => ⟨S16384x51, .i32⟩
  | 34 => ⟨S16384x51, .i32⟩
  | 35 => ⟨S16384x51, .i32⟩
  | 36 => ⟨S16384x51, .i32⟩
  | 37 => ⟨S_, .i32⟩
  | 38 => ⟨S16384x51, .i32⟩
  | 39 => ⟨S16384x51, .i32⟩
  | 40 => ⟨S_, .i32⟩
  | 41 => ⟨S16384x51, .i32⟩
  | 42 => ⟨S16384x51, .i32⟩
  | 43 => ⟨S16384x51, .i32⟩
  | 44 => ⟨S16384x51, .i32⟩
  | 45 => ⟨S16384x51, .i32⟩
  | 46 => ⟨S16384x51, .i32⟩
  | 47 => ⟨S16384x51, .i32⟩
  | 48 => ⟨S16384x51, .i32⟩
  | 49 => ⟨S_, .i32⟩
  | 50 => ⟨S16384x51, .i32⟩
  | 51 => ⟨S16384x51, .i32⟩
  | 52 => ⟨S16384x51, .i32⟩
  | 53 => ⟨S_, .i32⟩
  | 54 => ⟨S16384x51, .i32⟩
  | 55 => ⟨S16384x51, .i32⟩
  | 56 => ⟨S_, .i32⟩
  | 57 => ⟨S16384x51, .i32⟩
  | 58 => ⟨S16384x51, .i32⟩
  | 59 => ⟨S16384x51, .i32⟩
  | 60 => ⟨S16384x51, .i32⟩
  | 61 => ⟨S16384x51, .i32⟩
  | 62 => ⟨S_, .i32⟩
  | 63 => ⟨S16384x51, .i32⟩
  | 64 => ⟨S16384x51, .i32⟩
  | 65 => ⟨S_, .i32⟩
  | 66 => ⟨S16384x51, .i32⟩
  | 67 => ⟨S16384x51, .i32⟩
  | 68 => ⟨S16384x51, .i32⟩
  | 69 => ⟨S16384x51, .i32⟩
  | 70 => ⟨S16384x51, .i32⟩
  | 71 => ⟨S_, .i32⟩
  | 72 => ⟨S16384x51, .i32⟩
  | 73 => ⟨S16384x51, .i32⟩
  | 74 => ⟨S_, .i32⟩
  | 75 => ⟨S16384x51, .i32⟩
  | 76 => ⟨S16384x51, .i32⟩
  | 77 => ⟨S16384x51, .i32⟩
  | 78 => ⟨S16384x51, .i32⟩
  | 79 => ⟨S16384x51, .i32⟩
  | 80 => ⟨S_, .i32⟩
  | 81 => ⟨S16384x51, .i32⟩
  | 82 => ⟨S16384x51, .i32⟩
  | 83 => ⟨S_, .i32⟩
  | 84 => ⟨S16384x51, .i32⟩
  | 85 => ⟨S16384x51, .i32⟩
  | 86 => ⟨S16384x51, .i32⟩
  | 87 => ⟨S16384x51, .i32⟩
  | 88 => ⟨S16384x51, .i32⟩
  | 89 => ⟨S16384x51, .i32⟩
  | 90 => ⟨S16384x51, .i32⟩
  | 91 => ⟨S16384x51, .i32⟩
  | 92 => ⟨S_, .i32⟩
  | 93 => ⟨S16384x51, .i32⟩
  | 94 => ⟨S16384x51, .i32⟩
  | 95 => ⟨S16384x51, .i32⟩
  | 96 => ⟨S_, .i32⟩
  | 97 => ⟨S16384x51, .i32⟩
  | 98 => ⟨S16384x51, .i32⟩
  | 99 => ⟨S_, .i32⟩
  | 100 => ⟨S16384x51, .i32⟩
  | 101 => ⟨S16384x51, .i32⟩
  | 102 => ⟨S16384x51, .i32⟩
  | 103 => ⟨S16384x51, .i32⟩
  | 104 => ⟨S16384x51, .i32⟩
  | 105 => ⟨S_, .i32⟩
  | 106 => ⟨S16384x51, .i32⟩
  | 107 => ⟨S16384x51, .i32⟩
  | 108 => ⟨S_, .i32⟩
  | 109 => ⟨S16384x51, .i32⟩
  | 110 => ⟨S16384x51, .i32⟩
  | 111 => ⟨S16384x51, .i32⟩
  | 112 => ⟨S16384x51, .i32⟩
  | 113 => ⟨S16384x51, .i32⟩
  | 114 => ⟨S_, .i32⟩
  | 115 => ⟨S16384x51, .i32⟩
  | 116 => ⟨S16384x51, .i32⟩
  | 117 => ⟨S_, .i32⟩
  | 118 => ⟨S16384x51, .i32⟩
  | 119 => ⟨S16384x51, .i32⟩
  | 120 => ⟨S16384x51, .i32⟩
  | 121 => ⟨S16384x51, .i32⟩
  | 122 => ⟨S16384x51, .i32⟩
  | 123 => ⟨S_, .i32⟩
  | 124 => ⟨S16384x51, .i32⟩
  | 125 => ⟨S16384x51, .i32⟩
  | 126 => ⟨S_, .i32⟩
  | 127 => ⟨S16384x51, .i32⟩
  | _ => ⟨S16384x32, .f32⟩

abbrev hbmTy0_2 (i : Nat) : BufTy := match i % 128 with
  | 0 => ⟨S16384x51, .i32⟩
  | 1 => ⟨S16384x51, .i32⟩
  | 2 => ⟨S16384x51, .i32⟩
  | 3 => ⟨S16384x51, .i32⟩
  | 4 => ⟨S16384x51, .i32⟩
  | 5 => ⟨S16384x51, .i32⟩
  | 6 => ⟨S16384x51, .i32⟩
  | 7 => ⟨S_, .i32⟩
  | 8 => ⟨S16384x51, .i32⟩
  | 9 => ⟨S16384x51, .i32⟩
  | 10 => ⟨S16384x51, .i32⟩
  | 11 => ⟨S_, .i32⟩
  | 12 => ⟨S16384x51, .i32⟩
  | 13 => ⟨S16384x51, .i32⟩
  | 14 => ⟨S_, .i32⟩
  | 15 => ⟨S16384x51, .i32⟩
  | 16 => ⟨S16384x51, .i32⟩
  | 17 => ⟨S16384x51, .f32⟩
  | 18 => ⟨S_, .f32⟩
  | 19 => ⟨S16384x51, .f32⟩
  | 20 => ⟨S16384x51, .f32⟩
  | 21 => ⟨S1x1, .f32⟩
  | 22 => ⟨S16384x51, .f32⟩
  | 23 => ⟨S16384x51, .f32⟩
  | 24 => ⟨S16384x51, .f32⟩
  | 25 => ⟨S16384x51, .f32⟩
  | 26 => ⟨S16384x51, .f32⟩
  | 27 => ⟨S16384x51, .f32⟩
  | 28 => ⟨S16384x51, .f32⟩
  | 29 => ⟨S16384x51, .f32⟩
  | 30 => ⟨S16384x51, .f32⟩
  | 31 => ⟨S16384x51, .f32⟩
  | 32 => ⟨S16384x50, .f32⟩
  | 33 => ⟨S1x256, .f32⟩
  | 34 => ⟨S1x50, .f32⟩
  | 35 => ⟨S16384x1, .i32⟩
  | _ => ⟨S16384x32, .f32⟩

abbrev hbmTy (i : Nat) : BufTy := match i / 128 with
  | 0 => hbmTy0_0 i
  | 1 => hbmTy0_1 i
  | 2 => hbmTy0_2 i
  | _ => ⟨S16384x32, .f32⟩

abbrev bufTy : (tb : Table) → Fin (tcTables nBuf tb) → BufTy
  | .hbm, ⟨i, _⟩ => hbmTy i
  | .local _ .vmem, ⟨0, _⟩ => ⟨S1024x32, .f32⟩
  | .local _ .vmem, ⟨1, _⟩ => ⟨S1024x32, .f32⟩
  | .local _ .vmem, ⟨2, _⟩ => ⟨S1024x50, .f32⟩
  | .local _ .vmem, ⟨3, _⟩ => ⟨S1024x50, .f32⟩
  | .local _ .vmem, ⟨4, _⟩ => ⟨S1024x200, .f32⟩
  | .local _ .vmem, ⟨5, _⟩ => ⟨S1024x200, .f32⟩
  | .local _ .vmem, ⟨6, _⟩ => ⟨S32x256, .f32⟩
  | .local _ .vmem, ⟨7, _⟩ => ⟨S50x256, .f32⟩
  | .local _ .vmem, ⟨8, _⟩ => ⟨S200x256, .f32⟩
  | .local _ .vmem, ⟨9, _⟩ => ⟨S1x256, .f32⟩
  | .local _ .vmem, ⟨10, _⟩ => ⟨S256x50, .f32⟩
  | .local _ .vmem, ⟨11, _⟩ => ⟨S1x50, .f32⟩
  | .local _ .vmem, ⟨12, _⟩ => ⟨S1024x50, .f32⟩
  | .local _ .vmem, ⟨13, _⟩ => ⟨S1024x50, .f32⟩
  | .local _ .vmem, ⟨14, _⟩ => ⟨S1024x1, .i32⟩
  | .local _ .vmem, ⟨15, _⟩ => ⟨S1024x1, .i32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_call0_cst : Ref sig .tc := ⟨.hbm, 21, rfl⟩
abbrev main_call0_call0_cst_0 : Ref sig .tc := ⟨.hbm, 22, rfl⟩
abbrev main_call0_call0_call0_v0 : Ref sig .tc := ⟨.hbm, 23, rfl⟩
abbrev main_call0_call0_call0_v1 : Ref sig .tc := ⟨.hbm, 24, rfl⟩
abbrev main_call0_call0_call0_v2 : Ref sig .tc := ⟨.hbm, 25, rfl⟩
abbrev main_call0_call0_call0_v3 : Ref sig .tc := ⟨.hbm, 26, rfl⟩
abbrev main_call0_call0_call0_v4 : Ref sig .tc := ⟨.hbm, 27, rfl⟩
abbrev main_call0_call0_call0_v5 : Ref sig .tc := ⟨.hbm, 28, rfl⟩
abbrev main_call0_call0_call0_v6 : Ref sig .tc := ⟨.hbm, 29, rfl⟩
abbrev main_call0_call0_call0_v7 : Ref sig .tc := ⟨.hbm, 30, rfl⟩
abbrev main_call0_call0_call0_v8 : Ref sig .tc := ⟨.hbm, 31, rfl⟩
abbrev main_call0_call0_call0_c : Ref sig .tc := ⟨.hbm, 32, rfl⟩
abbrev main_call0_call0_call0_v9 : Ref sig .tc := ⟨.hbm, 33, rfl⟩
abbrev main_call0_call0_call0_v10 : Ref sig .tc := ⟨.hbm, 34, rfl⟩
abbrev main_call0_call0_call0_c_0 : Ref sig .tc := ⟨.hbm, 35, rfl⟩
abbrev main_call0_call0_call0_v11 : Ref sig .tc := ⟨.hbm, 36, rfl⟩
abbrev main_call0_call0_call0_v12 : Ref sig .tc := ⟨.hbm, 37, rfl⟩
abbrev main_call0_call0_call0_v13 : Ref sig .tc := ⟨.hbm, 38, rfl⟩
abbrev main_call0_call0_call0_c_1 : Ref sig .tc := ⟨.hbm, 39, rfl⟩
abbrev main_call0_call0_call0_v14 : Ref sig .tc := ⟨.hbm, 40, rfl⟩
abbrev main_call0_call0_call0_v15 : Ref sig .tc := ⟨.hbm, 41, rfl⟩
abbrev main_call0_call0_call0_v16 : Ref sig .tc := ⟨.hbm, 42, rfl⟩
abbrev main_call0_call0_call0_v17 : Ref sig .tc := ⟨.hbm, 43, rfl⟩
abbrev main_call0_call0_call0_call0_v0 : Ref sig .tc := ⟨.hbm, 44, rfl⟩
abbrev main_call0_call0_call0_call0_c : Ref sig .tc := ⟨.hbm, 45, rfl⟩
abbrev main_call0_call0_call0_call0_v1 : Ref sig .tc := ⟨.hbm, 46, rfl⟩
abbrev main_call0_call0_call0_call0_v2 : Ref sig .tc := ⟨.hbm, 47, rfl⟩
abbrev main_call0_call0_call0_call0_v3 : Ref sig .tc := ⟨.hbm, 48, rfl⟩
abbrev main_call0_call0_call0_call0_v4 : Ref sig .tc := ⟨.hbm, 49, rfl⟩
abbrev main_call0_call0_call0_call0_v5 : Ref sig .tc := ⟨.hbm, 50, rfl⟩
abbrev main_call0_call0_call0_call0_v6 : Ref sig .tc := ⟨.hbm, 51, rfl⟩
abbrev main_call0_call0_call0_call0_c_0 : Ref sig .tc := ⟨.hbm, 52, rfl⟩
abbrev main_call0_call0_call0_call0_v7 : Ref sig .tc := ⟨.hbm, 53, rfl⟩
abbrev main_call0_call0_call0_call0_v8 : Ref sig .tc := ⟨.hbm, 54, rfl⟩
abbrev main_call0_call0_call0_call0_c_1 : Ref sig .tc := ⟨.hbm, 55, rfl⟩
abbrev main_call0_call0_call0_call0_v9 : Ref sig .tc := ⟨.hbm, 56, rfl⟩
abbrev main_call0_call0_call0_call0_v10 : Ref sig .tc := ⟨.hbm, 57, rfl⟩
abbrev main_call0_call0_call0_call0_v11 : Ref sig .tc := ⟨.hbm, 58, rfl⟩
abbrev main_call0_call0_call0_call0_v12 : Ref sig .tc := ⟨.hbm, 59, rfl⟩
abbrev main_call0_call0_call0_call0_v13 : Ref sig .tc := ⟨.hbm, 60, rfl⟩
abbrev main_call0_call0_call0_call0_c_2 : Ref sig .tc := ⟨.hbm, 61, rfl⟩
abbrev main_call0_call0_call0_call0_v14 : Ref sig .tc := ⟨.hbm, 62, rfl⟩
abbrev main_call0_call0_call0_call0_v15 : Ref sig .tc := ⟨.hbm, 63, rfl⟩
abbrev main_call0_call0_call0_call0_c_3 : Ref sig .tc := ⟨.hbm, 64, rfl⟩
abbrev main_call0_call0_call0_call0_v16 : Ref sig .tc := ⟨.hbm, 65, rfl⟩
abbrev main_call0_call0_call0_call0_v17 : Ref sig .tc := ⟨.hbm, 66, rfl⟩
abbrev main_call0_call0_call0_call0_v18 : Ref sig .tc := ⟨.hbm, 67, rfl⟩
abbrev main_call0_call0_call0_call0_v19 : Ref sig .tc := ⟨.hbm, 68, rfl⟩
abbrev main_call0_call0_call0_call0_v20 : Ref sig .tc := ⟨.hbm, 69, rfl⟩
abbrev main_call0_call0_call0_call0_c_4 : Ref sig .tc := ⟨.hbm, 70, rfl⟩
abbrev main_call0_call0_call0_call0_v21 : Ref sig .tc := ⟨.hbm, 71, rfl⟩
abbrev main_call0_call0_call0_call0_v22 : Ref sig .tc := ⟨.hbm, 72, rfl⟩
abbrev main_call0_call0_call0_call0_c_5 : Ref sig .tc := ⟨.hbm, 73, rfl⟩
abbrev main_call0_call0_call0_call0_v23 : Ref sig .tc := ⟨.hbm, 74, rfl⟩
abbrev main_call0_call0_call0_call0_v24 : Ref sig .tc := ⟨.hbm, 75, rfl⟩
abbrev main_call0_call0_call0_call0_v25 : Ref sig .tc := ⟨.hbm, 76, rfl⟩
abbrev main_call0_call0_call0_call0_v26 : Ref sig .tc := ⟨.hbm, 77, rfl⟩
abbrev main_call0_call0_call0_call0_v27 : Ref sig .tc := ⟨.hbm, 78, rfl⟩
abbrev main_call0_call0_call0_call0_c_6 : Ref sig .tc := ⟨.hbm, 79, rfl⟩
abbrev main_call0_call0_call0_call0_v28 : Ref sig .tc := ⟨.hbm, 80, rfl⟩
abbrev main_call0_call0_call0_call0_v29 : Ref sig .tc := ⟨.hbm, 81, rfl⟩
abbrev main_call0_call0_call0_call0_c_7 : Ref sig .tc := ⟨.hbm, 82, rfl⟩
abbrev main_call0_call0_call0_call0_v30 : Ref sig .tc := ⟨.hbm, 83, rfl⟩
abbrev main_call0_call0_call0_call0_v31 : Ref sig .tc := ⟨.hbm, 84, rfl⟩
abbrev main_call0_call0_call0_call0_v32 : Ref sig .tc := ⟨.hbm, 85, rfl⟩
abbrev main_call0_call0_call0_call0_v33 : Ref sig .tc := ⟨.hbm, 86, rfl⟩
abbrev main_call0_call0_call0_call0_v34 : Ref sig .tc := ⟨.hbm, 87, rfl⟩
abbrev main_call0_call0_call0_call0_v35 : Ref sig .tc := ⟨.hbm, 88, rfl⟩
abbrev main_call0_call0_call0_call0_v36 : Ref sig .tc := ⟨.hbm, 89, rfl⟩
abbrev main_call0_call0_call0_call0_v37 : Ref sig .tc := ⟨.hbm, 90, rfl⟩
abbrev main_call0_call0_call0_call0_c_8 : Ref sig .tc := ⟨.hbm, 91, rfl⟩
abbrev main_call0_call0_call0_call0_v38 : Ref sig .tc := ⟨.hbm, 92, rfl⟩
abbrev main_call0_call0_call0_call0_v39 : Ref sig .tc := ⟨.hbm, 93, rfl⟩
abbrev main_call0_call0_call0_call0_v40 : Ref sig .tc := ⟨.hbm, 94, rfl⟩
abbrev main_call0_call0_call0_call0_c_9 : Ref sig .tc := ⟨.hbm, 95, rfl⟩
abbrev main_call0_call0_call0_call0_v41 : Ref sig .tc := ⟨.hbm, 96, rfl⟩
abbrev main_call0_call0_call0_call0_v42 : Ref sig .tc := ⟨.hbm, 97, rfl⟩
abbrev main_call0_call0_call0_call0_c_10 : Ref sig .tc := ⟨.hbm, 98, rfl⟩
abbrev main_call0_call0_call0_call0_v43 : Ref sig .tc := ⟨.hbm, 99, rfl⟩
abbrev main_call0_call0_call0_call0_v44 : Ref sig .tc := ⟨.hbm, 100, rfl⟩
abbrev main_call0_call0_call0_call0_v45 : Ref sig .tc := ⟨.hbm, 101, rfl⟩
abbrev main_call0_call0_call0_call0_v46 : Ref sig .tc := ⟨.hbm, 102, rfl⟩
abbrev main_call0_call0_call0_call0_v47 : Ref sig .tc := ⟨.hbm, 103, rfl⟩
abbrev main_call0_call0_call0_call0_c_11 : Ref sig .tc := ⟨.hbm, 104, rfl⟩
abbrev main_call0_call0_call0_call0_v48 : Ref sig .tc := ⟨.hbm, 105, rfl⟩
abbrev main_call0_call0_call0_call0_v49 : Ref sig .tc := ⟨.hbm, 106, rfl⟩
abbrev main_call0_call0_call0_call0_c_12 : Ref sig .tc := ⟨.hbm, 107, rfl⟩
abbrev main_call0_call0_call0_call0_v50 : Ref sig .tc := ⟨.hbm, 108, rfl⟩
abbrev main_call0_call0_call0_call0_v51 : Ref sig .tc := ⟨.hbm, 109, rfl⟩
abbrev main_call0_call0_call0_call0_v52 : Ref sig .tc := ⟨.hbm, 110, rfl⟩
abbrev main_call0_call0_call0_call0_v53 : Ref sig .tc := ⟨.hbm, 111, rfl⟩
abbrev main_call0_call0_call0_call0_v54 : Ref sig .tc := ⟨.hbm, 112, rfl⟩
abbrev main_call0_call0_call0_call0_c_13 : Ref sig .tc := ⟨.hbm, 113, rfl⟩
abbrev main_call0_call0_call0_call0_v55 : Ref sig .tc := ⟨.hbm, 114, rfl⟩
abbrev main_call0_call0_call0_call0_v56 : Ref sig .tc := ⟨.hbm, 115, rfl⟩
abbrev main_call0_call0_call0_call0_c_14 : Ref sig .tc := ⟨.hbm, 116, rfl⟩
abbrev main_call0_call0_call0_call0_v57 : Ref sig .tc := ⟨.hbm, 117, rfl⟩
abbrev main_call0_call0_call0_call0_v58 : Ref sig .tc := ⟨.hbm, 118, rfl⟩
abbrev main_call0_call0_call0_call0_v59 : Ref sig .tc := ⟨.hbm, 119, rfl⟩
abbrev main_call0_call0_call0_call0_v60 : Ref sig .tc := ⟨.hbm, 120, rfl⟩
abbrev main_call0_call0_call0_call0_v61 : Ref sig .tc := ⟨.hbm, 121, rfl⟩
abbrev main_call0_call0_call0_call0_c_15 : Ref sig .tc := ⟨.hbm, 122, rfl⟩
abbrev main_call0_call0_call0_call0_v62 : Ref sig .tc := ⟨.hbm, 123, rfl⟩
abbrev main_call0_call0_call0_call0_v63 : Ref sig .tc := ⟨.hbm, 124, rfl⟩
abbrev main_call0_call0_call0_call0_c_16 : Ref sig .tc := ⟨.hbm, 125, rfl⟩
abbrev main_call0_call0_call0_call0_v64 : Ref sig .tc := ⟨.hbm, 126, rfl⟩
abbrev main_call0_call0_call0_call0_v65 : Ref sig .tc := ⟨.hbm, 127, rfl⟩
abbrev main_call0_call0_call0_call0_v66 : Ref sig .tc := ⟨.hbm, 128, rfl⟩
abbrev main_call0_call0_call0_call0_v67 : Ref sig .tc := ⟨.hbm, 129, rfl⟩
abbrev main_call0_call0_call0_call0_v68 : Ref sig .tc := ⟨.hbm, 130, rfl⟩
abbrev main_call0_call0_call0_call0_v69 : Ref sig .tc := ⟨.hbm, 131, rfl⟩
abbrev main_call0_call0_call0_call0_v70 : Ref sig .tc := ⟨.hbm, 132, rfl⟩
abbrev main_call0_call0_call0_call0_v71 : Ref sig .tc := ⟨.hbm, 133, rfl⟩
abbrev main_call0_call0_call0_call0_c_17 : Ref sig .tc := ⟨.hbm, 134, rfl⟩
abbrev main_call0_call0_call0_call0_v72 : Ref sig .tc := ⟨.hbm, 135, rfl⟩
abbrev main_call0_call0_call0_call0_v73 : Ref sig .tc := ⟨.hbm, 136, rfl⟩
abbrev main_call0_call0_call0_call0_v74 : Ref sig .tc := ⟨.hbm, 137, rfl⟩
abbrev main_call0_call0_call0_call0_c_18 : Ref sig .tc := ⟨.hbm, 138, rfl⟩
abbrev main_call0_call0_call0_call0_v75 : Ref sig .tc := ⟨.hbm, 139, rfl⟩
abbrev main_call0_call0_call0_call0_v76 : Ref sig .tc := ⟨.hbm, 140, rfl⟩
abbrev main_call0_call0_call0_call0_c_19 : Ref sig .tc := ⟨.hbm, 141, rfl⟩
abbrev main_call0_call0_call0_call0_v77 : Ref sig .tc := ⟨.hbm, 142, rfl⟩
abbrev main_call0_call0_call0_call0_v78 : Ref sig .tc := ⟨.hbm, 143, rfl⟩
abbrev main_call0_call0_call0_call0_v79 : Ref sig .tc := ⟨.hbm, 144, rfl⟩
abbrev main_call0_call0_call0_call0_v80 : Ref sig .tc := ⟨.hbm, 145, rfl⟩
abbrev main_call0_call0_call0_call0_v81 : Ref sig .tc := ⟨.hbm, 146, rfl⟩
abbrev main_call0_call0_call0_call0_c_20 : Ref sig .tc := ⟨.hbm, 147, rfl⟩
abbrev main_call0_call0_call0_call0_v82 : Ref sig .tc := ⟨.hbm, 148, rfl⟩
abbrev main_call0_call0_call0_call0_v83 : Ref sig .tc := ⟨.hbm, 149, rfl⟩
abbrev main_call0_call0_call0_call0_c_21 : Ref sig .tc := ⟨.hbm, 150, rfl⟩
abbrev main_call0_call0_call0_call0_v84 : Ref sig .tc := ⟨.hbm, 151, rfl⟩
abbrev main_call0_call0_call0_call0_v85 : Ref sig .tc := ⟨.hbm, 152, rfl⟩
abbrev main_call0_call0_call0_call0_v86 : Ref sig .tc := ⟨.hbm, 153, rfl⟩
abbrev main_call0_call0_call0_call0_v87 : Ref sig .tc := ⟨.hbm, 154, rfl⟩
abbrev main_call0_call0_call0_call0_v88 : Ref sig .tc := ⟨.hbm, 155, rfl⟩
abbrev main_call0_call0_call0_call0_c_22 : Ref sig .tc := ⟨.hbm, 156, rfl⟩
abbrev main_call0_call0_call0_call0_v89 : Ref sig .tc := ⟨.hbm, 157, rfl⟩
abbrev main_call0_call0_call0_call0_v90 : Ref sig .tc := ⟨.hbm, 158, rfl⟩
abbrev main_call0_call0_call0_call0_c_23 : Ref sig .tc := ⟨.hbm, 159, rfl⟩
abbrev main_call0_call0_call0_call0_v91 : Ref sig .tc := ⟨.hbm, 160, rfl⟩
abbrev main_call0_call0_call0_call0_v92 : Ref sig .tc := ⟨.hbm, 161, rfl⟩
abbrev main_call0_call0_call0_call0_v93 : Ref sig .tc := ⟨.hbm, 162, rfl⟩
abbrev main_call0_call0_call0_call0_v94 : Ref sig .tc := ⟨.hbm, 163, rfl⟩
abbrev main_call0_call0_call0_call0_v95 : Ref sig .tc := ⟨.hbm, 164, rfl⟩
abbrev main_call0_call0_call0_call0_c_24 : Ref sig .tc := ⟨.hbm, 165, rfl⟩
abbrev main_call0_call0_call0_call0_v96 : Ref sig .tc := ⟨.hbm, 166, rfl⟩
abbrev main_call0_call0_call0_call0_v97 : Ref sig .tc := ⟨.hbm, 167, rfl⟩
abbrev main_call0_call0_call0_call0_c_25 : Ref sig .tc := ⟨.hbm, 168, rfl⟩
abbrev main_call0_call0_call0_call0_v98 : Ref sig .tc := ⟨.hbm, 169, rfl⟩
abbrev main_call0_call0_call0_call0_v99 : Ref sig .tc := ⟨.hbm, 170, rfl⟩
abbrev main_call0_call0_call0_call0_v100 : Ref sig .tc := ⟨.hbm, 171, rfl⟩
abbrev main_call0_call0_call0_call0_v101 : Ref sig .tc := ⟨.hbm, 172, rfl⟩
abbrev main_call0_call0_call0_call0_v102 : Ref sig .tc := ⟨.hbm, 173, rfl⟩
abbrev main_call0_call0_call0_call0_v103 : Ref sig .tc := ⟨.hbm, 174, rfl⟩
abbrev main_call0_call0_call0_call0_v104 : Ref sig .tc := ⟨.hbm, 175, rfl⟩
abbrev main_call0_call0_call0_call0_v105 : Ref sig .tc := ⟨.hbm, 176, rfl⟩
abbrev main_call0_call0_call0_call0_c_26 : Ref sig .tc := ⟨.hbm, 177, rfl⟩
abbrev main_call0_call0_call0_call0_v106 : Ref sig .tc := ⟨.hbm, 178, rfl⟩
abbrev main_call0_call0_call0_call0_v107 : Ref sig .tc := ⟨.hbm, 179, rfl⟩
abbrev main_call0_call0_call0_call0_v108 : Ref sig .tc := ⟨.hbm, 180, rfl⟩
abbrev main_call0_call0_call0_call0_c_27 : Ref sig .tc := ⟨.hbm, 181, rfl⟩
abbrev main_call0_call0_call0_call0_v109 : Ref sig .tc := ⟨.hbm, 182, rfl⟩
abbrev main_call0_call0_call0_call0_v110 : Ref sig .tc := ⟨.hbm, 183, rfl⟩
abbrev main_call0_call0_call0_call0_c_28 : Ref sig .tc := ⟨.hbm, 184, rfl⟩
abbrev main_call0_call0_call0_call0_v111 : Ref sig .tc := ⟨.hbm, 185, rfl⟩
abbrev main_call0_call0_call0_call0_v112 : Ref sig .tc := ⟨.hbm, 186, rfl⟩
abbrev main_call0_call0_call0_call0_v113 : Ref sig .tc := ⟨.hbm, 187, rfl⟩
abbrev main_call0_call0_call0_call0_v114 : Ref sig .tc := ⟨.hbm, 188, rfl⟩
abbrev main_call0_call0_call0_call0_v115 : Ref sig .tc := ⟨.hbm, 189, rfl⟩
abbrev main_call0_call0_call0_call0_c_29 : Ref sig .tc := ⟨.hbm, 190, rfl⟩
abbrev main_call0_call0_call0_call0_v116 : Ref sig .tc := ⟨.hbm, 191, rfl⟩
abbrev main_call0_call0_call0_call0_v117 : Ref sig .tc := ⟨.hbm, 192, rfl⟩
abbrev main_call0_call0_call0_call0_c_30 : Ref sig .tc := ⟨.hbm, 193, rfl⟩
abbrev main_call0_call0_call0_call0_v118 : Ref sig .tc := ⟨.hbm, 194, rfl⟩
abbrev main_call0_call0_call0_call0_v119 : Ref sig .tc := ⟨.hbm, 195, rfl⟩
abbrev main_call0_call0_call0_call0_v120 : Ref sig .tc := ⟨.hbm, 196, rfl⟩
abbrev main_call0_call0_call0_call0_v121 : Ref sig .tc := ⟨.hbm, 197, rfl⟩
abbrev main_call0_call0_call0_call0_v122 : Ref sig .tc := ⟨.hbm, 198, rfl⟩
abbrev main_call0_call0_call0_call0_c_31 : Ref sig .tc := ⟨.hbm, 199, rfl⟩
abbrev main_call0_call0_call0_call0_v123 : Ref sig .tc := ⟨.hbm, 200, rfl⟩
abbrev main_call0_call0_call0_call0_v124 : Ref sig .tc := ⟨.hbm, 201, rfl⟩
abbrev main_call0_call0_call0_call0_c_32 : Ref sig .tc := ⟨.hbm, 202, rfl⟩
abbrev main_call0_call0_call0_call0_v125 : Ref sig .tc := ⟨.hbm, 203, rfl⟩
abbrev main_call0_call0_call0_call0_v126 : Ref sig .tc := ⟨.hbm, 204, rfl⟩
abbrev main_call0_call0_call0_call0_v127 : Ref sig .tc := ⟨.hbm, 205, rfl⟩
abbrev main_call0_call0_call0_call0_v128 : Ref sig .tc := ⟨.hbm, 206, rfl⟩
abbrev main_call0_call0_call0_call0_v129 : Ref sig .tc := ⟨.hbm, 207, rfl⟩
abbrev main_call0_call0_call0_call0_c_33 : Ref sig .tc := ⟨.hbm, 208, rfl⟩
abbrev main_call0_call0_call0_call0_v130 : Ref sig .tc := ⟨.hbm, 209, rfl⟩
abbrev main_call0_call0_call0_call0_v131 : Ref sig .tc := ⟨.hbm, 210, rfl⟩
abbrev main_call0_call0_call0_call0_c_34 : Ref sig .tc := ⟨.hbm, 211, rfl⟩
abbrev main_call0_call0_call0_call0_v132 : Ref sig .tc := ⟨.hbm, 212, rfl⟩
abbrev main_call0_call0_call0_call0_v133 : Ref sig .tc := ⟨.hbm, 213, rfl⟩
abbrev main_call0_call0_call0_call0_v134 : Ref sig .tc := ⟨.hbm, 214, rfl⟩
abbrev main_call0_call0_call0_call0_v135 : Ref sig .tc := ⟨.hbm, 215, rfl⟩
abbrev main_call0_call0_call0_call0_v136 : Ref sig .tc := ⟨.hbm, 216, rfl⟩
abbrev main_call0_call0_call0_call0_v137 : Ref sig .tc := ⟨.hbm, 217, rfl⟩
abbrev main_call0_call0_call0_call0_v138 : Ref sig .tc := ⟨.hbm, 218, rfl⟩
abbrev main_call0_call0_call0_call0_v139 : Ref sig .tc := ⟨.hbm, 219, rfl⟩
abbrev main_call0_call0_call0_call0_c_35 : Ref sig .tc := ⟨.hbm, 220, rfl⟩
abbrev main_call0_call0_call0_call0_v140 : Ref sig .tc := ⟨.hbm, 221, rfl⟩
abbrev main_call0_call0_call0_call0_v141 : Ref sig .tc := ⟨.hbm, 222, rfl⟩
abbrev main_call0_call0_call0_call0_v142 : Ref sig .tc := ⟨.hbm, 223, rfl⟩
abbrev main_call0_call0_call0_call0_c_36 : Ref sig .tc := ⟨.hbm, 224, rfl⟩
abbrev main_call0_call0_call0_call0_v143 : Ref sig .tc := ⟨.hbm, 225, rfl⟩
abbrev main_call0_call0_call0_call0_v144 : Ref sig .tc := ⟨.hbm, 226, rfl⟩
abbrev main_call0_call0_call0_call0_c_37 : Ref sig .tc := ⟨.hbm, 227, rfl⟩
abbrev main_call0_call0_call0_call0_v145 : Ref sig .tc := ⟨.hbm, 228, rfl⟩
abbrev main_call0_call0_call0_call0_v146 : Ref sig .tc := ⟨.hbm, 229, rfl⟩
abbrev main_call0_call0_call0_call0_v147 : Ref sig .tc := ⟨.hbm, 230, rfl⟩
abbrev main_call0_call0_call0_call0_v148 : Ref sig .tc := ⟨.hbm, 231, rfl⟩
abbrev main_call0_call0_call0_call0_v149 : Ref sig .tc := ⟨.hbm, 232, rfl⟩
abbrev main_call0_call0_call0_call0_c_38 : Ref sig .tc := ⟨.hbm, 233, rfl⟩
abbrev main_call0_call0_call0_call0_v150 : Ref sig .tc := ⟨.hbm, 234, rfl⟩
abbrev main_call0_call0_call0_call0_v151 : Ref sig .tc := ⟨.hbm, 235, rfl⟩
abbrev main_call0_call0_call0_call0_c_39 : Ref sig .tc := ⟨.hbm, 236, rfl⟩
abbrev main_call0_call0_call0_call0_v152 : Ref sig .tc := ⟨.hbm, 237, rfl⟩
abbrev main_call0_call0_call0_call0_v153 : Ref sig .tc := ⟨.hbm, 238, rfl⟩
abbrev main_call0_call0_call0_call0_v154 : Ref sig .tc := ⟨.hbm, 239, rfl⟩
abbrev main_call0_call0_call0_call0_v155 : Ref sig .tc := ⟨.hbm, 240, rfl⟩
abbrev main_call0_call0_call0_call0_v156 : Ref sig .tc := ⟨.hbm, 241, rfl⟩
abbrev main_call0_call0_call0_call0_c_40 : Ref sig .tc := ⟨.hbm, 242, rfl⟩
abbrev main_call0_call0_call0_call0_v157 : Ref sig .tc := ⟨.hbm, 243, rfl⟩
abbrev main_call0_call0_call0_call0_v158 : Ref sig .tc := ⟨.hbm, 244, rfl⟩
abbrev main_call0_call0_call0_call0_c_41 : Ref sig .tc := ⟨.hbm, 245, rfl⟩
abbrev main_call0_call0_call0_call0_v159 : Ref sig .tc := ⟨.hbm, 246, rfl⟩
abbrev main_call0_call0_call0_call0_v160 : Ref sig .tc := ⟨.hbm, 247, rfl⟩
abbrev main_call0_call0_call0_call0_v161 : Ref sig .tc := ⟨.hbm, 248, rfl⟩
abbrev main_call0_call0_call0_call0_v162 : Ref sig .tc := ⟨.hbm, 249, rfl⟩
abbrev main_call0_call0_call0_call0_v163 : Ref sig .tc := ⟨.hbm, 250, rfl⟩
abbrev main_call0_call0_call0_call0_c_42 : Ref sig .tc := ⟨.hbm, 251, rfl⟩
abbrev main_call0_call0_call0_call0_v164 : Ref sig .tc := ⟨.hbm, 252, rfl⟩
abbrev main_call0_call0_call0_call0_v165 : Ref sig .tc := ⟨.hbm, 253, rfl⟩
abbrev main_call0_call0_call0_call0_c_43 : Ref sig .tc := ⟨.hbm, 254, rfl⟩
abbrev main_call0_call0_call0_call0_v166 : Ref sig .tc := ⟨.hbm, 255, rfl⟩
abbrev main_call0_call0_call0_call0_v167 : Ref sig .tc := ⟨.hbm, 256, rfl⟩
abbrev main_call0_call0_call0_call0_v168 : Ref sig .tc := ⟨.hbm, 257, rfl⟩
abbrev main_call0_call0_call0_call0_v169 : Ref sig .tc := ⟨.hbm, 258, rfl⟩
abbrev main_call0_call0_call0_call0_v170 : Ref sig .tc := ⟨.hbm, 259, rfl⟩
abbrev main_call0_call0_call0_v18_0 : Ref sig .tc := ⟨.hbm, 260, rfl⟩
abbrev main_call0_call0_call0_call0_v172 : Ref sig .tc := ⟨.hbm, 261, rfl⟩
abbrev main_call0_call0_call0_call0_v173 : Ref sig .tc := ⟨.hbm, 262, rfl⟩
abbrev main_call0_call0_call0_call0_c_44 : Ref sig .tc := ⟨.hbm, 263, rfl⟩
abbrev main_call0_call0_call0_call0_v174 : Ref sig .tc := ⟨.hbm, 264, rfl⟩
abbrev main_call0_call0_call0_v18_1 : Ref sig .tc := ⟨.hbm, 265, rfl⟩
abbrev main_call0_call0_call0_v19 : Ref sig .tc := ⟨.hbm, 266, rfl⟩
abbrev main_call0_call0_call0_c_2 : Ref sig .tc := ⟨.hbm, 267, rfl⟩
abbrev main_call0_call0_call0_v20 : Ref sig .tc := ⟨.hbm, 268, rfl⟩
abbrev main_call0_call0_call0_v21 : Ref sig .tc := ⟨.hbm, 269, rfl⟩
abbrev main_call0_call0_call0_c_3 : Ref sig .tc := ⟨.hbm, 270, rfl⟩
abbrev main_call0_call0_call0_v22 : Ref sig .tc := ⟨.hbm, 271, rfl⟩
abbrev main_call0_call0_call0_v23 : Ref sig .tc := ⟨.hbm, 272, rfl⟩
abbrev main_call0_call0_call0_v24 : Ref sig .tc := ⟨.hbm, 273, rfl⟩
abbrev main_call0_call0_call0_cst : Ref sig .tc := ⟨.hbm, 274, rfl⟩
abbrev main_call0_call0_call0_v25 : Ref sig .tc := ⟨.hbm, 275, rfl⟩
abbrev main_call0_call0_call0_v26 : Ref sig .tc := ⟨.hbm, 276, rfl⟩
abbrev main_call0_call0_call0_v27 : Ref sig .tc := ⟨.hbm, 277, rfl⟩
abbrev main_call0_call0_call0_v28 : Ref sig .tc := ⟨.hbm, 278, rfl⟩
abbrev main_call0_call0_call0_v29 : Ref sig .tc := ⟨.hbm, 279, rfl⟩
abbrev main_call0_call0_call0_v30 : Ref sig .tc := ⟨.hbm, 280, rfl⟩
abbrev main_call0_call0_call0_v31 : Ref sig .tc := ⟨.hbm, 281, rfl⟩
abbrev main_call0_call0_call0_v32 : Ref sig .tc := ⟨.hbm, 282, rfl⟩
abbrev main_call0_call0_v0 : Ref sig .tc := ⟨.hbm, 283, rfl⟩
abbrev main_call0_call0_v1 : Ref sig .tc := ⟨.hbm, 284, rfl⟩
abbrev main_call0_call0_v2 : Ref sig .tc := ⟨.hbm, 285, rfl⟩
abbrev main_call0_call0_v3 : Ref sig .tc := ⟨.hbm, 286, rfl⟩
abbrev main_call0_v11 : Ref sig .tc := ⟨.hbm, 287, rfl⟩
abbrev main_call0_v12 : Ref sig .tc := ⟨.hbm, 288, rfl⟩
abbrev main_call0_v13 : Ref sig .tc := ⟨.hbm, 289, rfl⟩
abbrev main_call0_v14 : Ref sig .tc := ⟨.hbm, 290, rfl⟩
abbrev main_v0 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16384x32 : Shape := ⟨2, ![16384, 32]⟩
abbrev S16384x50 : Shape := ⟨2, ![16384, 50]⟩
abbrev S16384x50x4 : Shape := ⟨3, ![16384, 50, 4]⟩
abbrev S282x256 : Shape := ⟨2, ![282, 256]⟩
abbrev S256 : Shape := ⟨1, ![256]⟩
abbrev S256x50 : Shape := ⟨2, ![256, 50]⟩
abbrev S50 : Shape := ⟨1, ![50]⟩
abbrev S16384x50x1 : Shape := ⟨3, ![16384, 50, 1]⟩
abbrev S16384x200 : Shape := ⟨2, ![16384, 200]⟩
abbrev S16384x282 : Shape := ⟨2, ![16384, 282]⟩
abbrev S16384x256 : Shape := ⟨2, ![16384, 256]⟩
abbrev S1x256 : Shape := ⟨2, ![1, 256]⟩
abbrev S_ : Shape := ⟨0, ![]⟩
abbrev S1x50 : Shape := ⟨2, ![1, 50]⟩
abbrev S16384x1 : Shape := ⟨2, ![16384, 1]⟩
abbrev S16384x51 : Shape := ⟨2, ![16384, 51]⟩
abbrev S1 : Shape := ⟨1, ![1]⟩
abbrev S2 : Shape := ⟨1, ![2]⟩
abbrev S1x1 : Shape := ⟨2, ![1, 1]⟩
abbrev S16384 : Shape := ⟨1, ![16384]⟩

abbrev nBuf : Space → Nat
  | .hbm => 313
  | .vmem => 0
  | .smem => 0
  | _ => 0

abbrev hbmTy0_0 (i : Nat) : BufTy := match i % 128 with
  | 0 => ⟨S16384x32, .f32⟩
  | 1 => ⟨S16384x50, .f32⟩
  | 2 => ⟨S16384x50x4, .f32⟩
  | 3 => ⟨S282x256, .f32⟩
  | 4 => ⟨S256, .f32⟩
  | 5 => ⟨S256x50, .f32⟩
  | 6 => ⟨S50, .f32⟩
  | 7 => ⟨S16384x50x1, .f32⟩
  | 8 => ⟨S16384x50, .f32⟩
  | 9 => ⟨S16384x200, .f32⟩
  | 10 => ⟨S16384x282, .f32⟩
  | 11 => ⟨S16384x256, .f32⟩
  | 12 => ⟨S1x256, .f32⟩
  | 13 => ⟨S16384x256, .f32⟩
  | 14 => ⟨S16384x256, .f32⟩
  | 15 => ⟨S_, .f32⟩
  | 16 => ⟨S16384x256, .f32⟩
  | 17 => ⟨S16384x256, .i1⟩
  | 18 => ⟨S_, .f32⟩
  | 19 => ⟨S16384x256, .f32⟩
  | 20 => ⟨S16384x256, .f32⟩
  | 21 => ⟨S16384x256, .f32⟩
  | 22 => ⟨S16384x50, .f32⟩
  | 23 => ⟨S1x50, .f32⟩
  | 24 => ⟨S16384x50, .f32⟩
  | 25 => ⟨S16384x50, .f32⟩
  | 26 => ⟨S_, .f32⟩
  | 27 => ⟨S16384x1, .f32⟩
  | 28 => ⟨S16384x51, .f32⟩
  | 29 => ⟨S_, .i32⟩
  | 30 => ⟨S_, .i32⟩
  | 31 => ⟨S_, .i32⟩
  | 32 => ⟨S_, .i32⟩
  | 33 => ⟨S1, .i32⟩
  | 34 => ⟨S_, .i32⟩
  | 35 => ⟨S_, .i32⟩
  | 36 => ⟨S_, .i32⟩
  | 37 => ⟨S1, .i32⟩
  | 38 => ⟨S2, .i32⟩
  | 39 => ⟨S_, .f32⟩
  | 40 => ⟨S_, .f32⟩
  | 41 => ⟨S_, .f32⟩
  | 42 => ⟨S1x1, .f32⟩
  | 43 => ⟨S1x1, .f32⟩
  | 44 => ⟨S1, .i32⟩
  | 45 => ⟨S_, .i32⟩
  | 46 => ⟨S1, .i32⟩
  | 47 => ⟨S_, .i32⟩
  | 48 => ⟨S16384x51, .i64⟩
  | 49 => ⟨S16384x51, .i64⟩
  | 50 => ⟨S_, .i64⟩
  | 51 => ⟨S16384x51, .i64⟩
  | 52 => ⟨S16384x51, .i64⟩
  | 53 => ⟨S_, .i64⟩
  | 54 => ⟨S16384x51, .i64⟩
  | 55 => ⟨S16384x51, .i64⟩
  | 56 => ⟨S16384x51, .i64⟩
  | 57 => ⟨S_, .i64⟩
  | 58 => ⟨S16384x51, .i64⟩
  | 59 => ⟨S16384x51, .i64⟩
  | 60 => ⟨S16384x51, .i32⟩
  | 61 => ⟨S16384x51, .i32⟩
  | 62 => ⟨S_, .i32⟩
  | 63 => ⟨S_, .i32⟩
  | 64 => ⟨S_, .i32⟩
  | 65 => ⟨S16384x51, .i32⟩
  | 66 => ⟨S16384x51, .i32⟩
  | 67 => ⟨S16384x51, .i32⟩
  | 68 => ⟨S16384x51, .i32⟩
  | 69 => ⟨S16384x51, .i32⟩
  | 70 => ⟨S_, .i32⟩
  | 71 => ⟨S16384x51, .i32⟩
  | 72 => ⟨S16384x51, .i32⟩
  | 73 => ⟨S_, .i32⟩
  | 74 => ⟨S16384x51, .i32⟩
  | 75 => ⟨S16384x51, .i32⟩
  | 76 => ⟨S16384x51, .i32⟩
  | 77 => ⟨S16384x51, .i32⟩
  | 78 => ⟨S16384x51, .i32⟩
  | 79 => ⟨S_, .i32⟩
  | 80 => ⟨S16384x51, .i32⟩
  | 81 => ⟨S16384x51, .i32⟩
  | 82 => ⟨S_, .i32⟩
  | 83 => ⟨S16384x51, .i32⟩
  | 84 => ⟨S16384x51, .i32⟩
  | 85 => ⟨S16384x51, .i32⟩
  | 86 => ⟨S16384x51, .i32⟩
  | 87 => ⟨S16384x51, .i32⟩
  | 88 => ⟨S_, .i32⟩
  | 89 => ⟨S16384x51, .i32⟩
  | 90 => ⟨S16384x51, .i32⟩
  | 91 => ⟨S_, .i32⟩
  | 92 => ⟨S16384x51, .i32⟩
  | 93 => ⟨S16384x51, .i32⟩
  | 94 => ⟨S16384x51, .i32⟩
  | 95 => ⟨S16384x51, .i32⟩
  | 96 => ⟨S16384x51, .i32⟩
  | 97 => ⟨S_, .i32⟩
  | 98 => ⟨S16384x51, .i32⟩
  | 99 => ⟨S16384x51, .i32⟩
  | 100 => ⟨S_, .i32⟩
  | 101 => ⟨S16384x51, .i32⟩
  | 102 => ⟨S16384x51, .i32⟩
  | 103 => ⟨S16384x51, .i32⟩
  | 104 => ⟨S16384x51, .i32⟩
  | 105 => ⟨S16384x51, .i32⟩
  | 106 => ⟨S16384x51, .i32⟩
  | 107 => ⟨S16384x51, .i32⟩
  | 108 => ⟨S16384x51, .i32⟩
  | 109 => ⟨S_, .i32⟩
  | 110 => ⟨S16384x51, .i32⟩
  | 111 => ⟨S16384x51, .i32⟩
  | 112 => ⟨S16384x51, .i32⟩
  | 113 => ⟨S_, .i32⟩
  | 114 => ⟨S16384x51, .i32⟩
  | 115 => ⟨S16384x51, .i32⟩
  | 116 => ⟨S_, .i32⟩
  | 117 => ⟨S16384x51, .i32⟩
  | 118 => ⟨S16384x51, .i32⟩
  | 119 => ⟨S16384x51, .i32⟩
  | 120 => ⟨S16384x51, .i32⟩
  | 121 => ⟨S16384x51, .i32⟩
  | 122 => ⟨S_, .i32⟩
  | 123 => ⟨S16384x51, .i32⟩
  | 124 => ⟨S16384x51, .i32⟩
  | 125 => ⟨S_, .i32⟩
  | 126 => ⟨S16384x51, .i32⟩
  | 127 => ⟨S16384x51, .i32⟩
  | _ => ⟨S16384x32, .f32⟩

abbrev hbmTy0_1 (i : Nat) : BufTy := match i % 128 with
  | 0 => ⟨S16384x51, .i32⟩
  | 1 => ⟨S16384x51, .i32⟩
  | 2 => ⟨S16384x51, .i32⟩
  | 3 => ⟨S_, .i32⟩
  | 4 => ⟨S16384x51, .i32⟩
  | 5 => ⟨S16384x51, .i32⟩
  | 6 => ⟨S_, .i32⟩
  | 7 => ⟨S16384x51, .i32⟩
  | 8 => ⟨S16384x51, .i32⟩
  | 9 => ⟨S16384x51, .i32⟩
  | 10 => ⟨S16384x51, .i32⟩
  | 11 => ⟨S16384x51, .i32⟩
  | 12 => ⟨S_, .i32⟩
  | 13 => ⟨S16384x51, .i32⟩
  | 14 => ⟨S16384x51, .i32⟩
  | 15 => ⟨S_, .i32⟩
  | 16 => ⟨S16384x51, .i32⟩
  | 17 => ⟨S16384x51, .i32⟩
  | 18 => ⟨S16384x51, .i32⟩
  | 19 => ⟨S16384x51, .i32⟩
  | 20 => ⟨S16384x51, .i32⟩
  | 21 => ⟨S16384x51, .i32⟩
  | 22 => ⟨S16384x51, .i32⟩
  | 23 => ⟨S16384x51, .i32⟩
  | 24 => ⟨S_, .i32⟩
  | 25 => ⟨S16384x51, .i32⟩
  | 26 => ⟨S16384x51, .i32⟩
  | 27 => ⟨S16384x51, .i32⟩
  | 28 => ⟨S_, .i32⟩
  | 29 => ⟨S16384x51, .i32⟩
  | 30 => ⟨S16384x51, .i32⟩
  | 31 => ⟨S_, .i32⟩
  | 32 => ⟨S16384x51, .i32⟩
  | 33 => ⟨S16384x51, .i32⟩
  | 34 => ⟨S16384x51, .i32⟩
  | 35 => ⟨S16384x51, .i32⟩
  | 36 => ⟨S16384x51, .i32⟩
  | 37 => ⟨S_, .i32⟩
  | 38 => ⟨S16384x51, .i32⟩
  | 39 => ⟨S16384x51, .i32⟩
  | 40 => ⟨S_, .i32⟩
  | 41 => ⟨S16384x51, .i32⟩
  | 42 => ⟨S16384x51, .i32⟩
  | 43 => ⟨S16384x51, .i32⟩
  | 44 => ⟨S16384x51, .i32⟩
  | 45 => ⟨S16384x51, .i32⟩
  | 46 => ⟨S_, .i32⟩
  | 47 => ⟨S16384x51, .i32⟩
  | 48 => ⟨S16384x51, .i32⟩
  | 49 => ⟨S_, .i32⟩
  | 50 => ⟨S16384x51, .i32⟩
  | 51 => ⟨S16384x51, .i32⟩
  | 52 => ⟨S16384x51, .i32⟩
  | 53 => ⟨S16384x51, .i32⟩
  | 54 => ⟨S16384x51, .i32⟩
  | 55 => ⟨S_, .i32⟩
  | 56 => ⟨S16384x51, .i32⟩
  | 57 => ⟨S16384x51, .i32⟩
  | 58 => ⟨S_, .i32⟩
  | 59 => ⟨S16384x51, .i32⟩
  | 60 => ⟨S16384x51, .i32⟩
  | 61 => ⟨S16384x51, .i32⟩
  | 62 => ⟨S16384x51, .i32⟩
  | 63 => ⟨S16384x51, .i32⟩
  | 64 => ⟨S16384x51, .i32⟩
  | 65 => ⟨S16384x51, .i32⟩
  | 66 => ⟨S16384x51, .i32⟩
  | 67 => ⟨S_, .i32⟩
  | 68 => ⟨S16384x51, .i32⟩
  | 69 => ⟨S16384x51, .i32⟩
  | 70 => ⟨S16384x51, .i32⟩
  | 71 => ⟨S_, .i32⟩
  | 72 => ⟨S16384x51, .i32⟩
  | 73 => ⟨S16384x51, .i32⟩
  | 74 => ⟨S_, .i32⟩
  | 75 => ⟨S16384x51, .i32⟩
  | 76 => ⟨S16384x51, .i32⟩
  | 77 => ⟨S16384x51, .i32⟩
  | 78 => ⟨S16384x51, .i32⟩
  | 79 => ⟨S16384x51, .i32⟩
  | 80 => ⟨S_, .i32⟩
  | 81 => ⟨S16384x51, .i32⟩
  | 82 => ⟨S16384x51, .i32⟩
  | 83 => ⟨S_, .i32⟩
  | 84 => ⟨S16384x51, .i32⟩
  | 85 => ⟨S16384x51, .i32⟩
  | 86 => ⟨S16384x51, .i32⟩
  | 87 => ⟨S16384x51, .i32⟩
  | 88 => ⟨S16384x51, .i32⟩
  | 89 => ⟨S_, .i32⟩
  | 90 => ⟨S16384x51, .i32⟩
  | 91 => ⟨S16384x51, .i32⟩
  | 92 => ⟨S_, .i32⟩
  | 93 => ⟨S16384x51, .i32⟩
  | 94 => ⟨S16384x51, .i32⟩
  | 95 => ⟨S16384x51, .i32⟩
  | 96 => ⟨S16384x51, .i32⟩
  | 97 => ⟨S16384x51, .i32⟩
  | 98 => ⟨S_, .i32⟩
  | 99 => ⟨S16384x51, .i32⟩
  | 100 => ⟨S16384x51, .i32⟩
  | 101 => ⟨S_, .i32⟩
  | 102 => ⟨S16384x51, .i32⟩
  | 103 => ⟨S16384x51, .i32⟩
  | 104 => ⟨S16384x51, .i32⟩
  | 105 => ⟨S16384x51, .i32⟩
  | 106 => ⟨S16384x51, .i32⟩
  | 107 => ⟨S16384x51, .i32⟩
  | 108 => ⟨S16384x51, .i32⟩
  | 109 => ⟨S16384x51, .i32⟩
  | 110 => ⟨S_, .i32⟩
  | 111 => ⟨S16384x51, .i32⟩
  | 112 => ⟨S16384x51, .i32⟩
  | 113 => ⟨S16384x51, .i32⟩
  | 114 => ⟨S_, .i32⟩
  | 115 => ⟨S16384x51, .i32⟩
  | 116 => ⟨S16384x51, .i32⟩
  | 117 => ⟨S_, .i32⟩
  | 118 => ⟨S16384x51, .i32⟩
  | 119 => ⟨S16384x51, .i32⟩
  | 120 => ⟨S16384x51, .i32⟩
  | 121 => ⟨S16384x51, .i32⟩
  | 122 => ⟨S16384x51, .i32⟩
  | 123 => ⟨S_, .i32⟩
  | 124 => ⟨S16384x51, .i32⟩
  | 125 => ⟨S16384x51, .i32⟩
  | 126 => ⟨S_, .i32⟩
  | 127 => ⟨S16384x51, .i32⟩
  | _ => ⟨S16384x32, .f32⟩

abbrev hbmTy0_2 (i : Nat) : BufTy := match i % 128 with
  | 0 => ⟨S16384x51, .i32⟩
  | 1 => ⟨S16384x51, .i32⟩
  | 2 => ⟨S16384x51, .i32⟩
  | 3 => ⟨S16384x51, .i32⟩
  | 4 => ⟨S_, .i32⟩
  | 5 => ⟨S16384x51, .i32⟩
  | 6 => ⟨S16384x51, .i32⟩
  | 7 => ⟨S_, .i32⟩
  | 8 => ⟨S16384x51, .i32⟩
  | 9 => ⟨S16384x51, .i32⟩
  | 10 => ⟨S16384x51, .i32⟩
  | 11 => ⟨S16384x51, .i32⟩
  | 12 => ⟨S16384x51, .i32⟩
  | 13 => ⟨S_, .i32⟩
  | 14 => ⟨S16384x51, .i32⟩
  | 15 => ⟨S16384x51, .i32⟩
  | 16 => ⟨S_, .i32⟩
  | 17 => ⟨S16384x51, .i32⟩
  | 18 => ⟨S16384x51, .i32⟩
  | 19 => ⟨S16384x51, .i32⟩
  | 20 => ⟨S16384x51, .i32⟩
  | 21 => ⟨S16384x51, .i32⟩
  | 22 => ⟨S16384x51, .i32⟩
  | 23 => ⟨S16384x51, .i32⟩
  | 24 => ⟨S16384x51, .i32⟩
  | 25 => ⟨S_, .i32⟩
  | 26 => ⟨S16384x51, .i32⟩
  | 27 => ⟨S16384x51, .i32⟩
  | 28 => ⟨S16384x51, .i32⟩
  | 29 => ⟨S_, .i32⟩
  | 30 => ⟨S16384x51, .i32⟩
  | 31 => ⟨S16384x51, .i32⟩
  | 32 => ⟨S_, .i32⟩
  | 33 => ⟨S16384x51, .i32⟩
  | 34 => ⟨S16384x51, .i32⟩
  | 35 => ⟨S16384x51, .f32⟩
  | 36 => ⟨S_, .f32⟩
  | 37 => ⟨S16384x51, .f32⟩
  | 38 => ⟨S16384x51, .f32⟩
  | 39 => ⟨S1x1, .f32⟩
  | 40 => ⟨S16384x51, .f32⟩
  | 41 => ⟨S16384x51, .f32⟩
  | 42 => ⟨S16384x51, .f32⟩
  | 43 => ⟨S16384x51, .f32⟩
  | 44 => ⟨S16384x51, .f32⟩
  | 45 => ⟨S16384x51, .f32⟩
  | 46 => ⟨S16384x51, .f32⟩
  | 47 => ⟨S16384x51, .f32⟩
  | 48 => ⟨S16384x51, .f32⟩
  | 49 => ⟨S16384x51, .f32⟩
  | 50 => ⟨S16384x51, .f32⟩
  | 51 => ⟨S16384x51, .i32⟩
  | 52 => ⟨S_, .f32⟩
  | 53 => ⟨S_, .i32⟩
  | 54 => ⟨S16384, .f32⟩
  | 55 => ⟨S16384, .i32⟩
  | 56 => ⟨S16384x1, .i32⟩
  | _ => ⟨S16384x32, .f32⟩

abbrev hbmTy (i : Nat) : BufTy := match i / 128 with
  | 0 => hbmTy0_0 i
  | 1 => hbmTy0_1 i
  | 2 => hbmTy0_2 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call1_cst : Ref sig .tc := ⟨.hbm, 39, rfl⟩
abbrev main_call1_cst_0 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_c : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_c_0 : Ref sig .tc := ⟨.hbm, 53, rfl⟩
abbrev main_call1_call0_v11 : Ref sig .tc := ⟨.hbm, 54, rfl⟩
abbrev main_call1_call0_v12 : Ref sig .tc := ⟨.hbm, 55, rfl⟩
abbrev main_call1_call0_v13 : Ref sig .tc := ⟨.hbm, 56, rfl⟩
abbrev main_call1_call0_c_1 : Ref sig .tc := ⟨.hbm, 57, rfl⟩
abbrev main_call1_call0_v14 : Ref sig .tc := ⟨.hbm, 58, rfl⟩
abbrev main_call1_call0_v15 : Ref sig .tc := ⟨.hbm, 59, rfl⟩
abbrev main_call1_call0_v16 : Ref sig .tc := ⟨.hbm, 60, rfl⟩
abbrev main_call1_call0_v17 : Ref sig .tc := ⟨.hbm, 61, rfl⟩
abbrev main_call1_call0_call0_v0 : Ref sig .tc := ⟨.hbm, 62, rfl⟩
abbrev main_call1_call0_call0_c : Ref sig .tc := ⟨.hbm, 63, rfl⟩
abbrev main_call1_call0_call0_v1 : Ref sig .tc := ⟨.hbm, 64, rfl⟩
abbrev main_call1_call0_call0_v2 : Ref sig .tc := ⟨.hbm, 65, rfl⟩
abbrev main_call1_call0_call0_v3 : Ref sig .tc := ⟨.hbm, 66, rfl⟩
abbrev main_call1_call0_call0_v4 : Ref sig .tc := ⟨.hbm, 67, rfl⟩
abbrev main_call1_call0_call0_v5 : Ref sig .tc := ⟨.hbm, 68, rfl⟩
abbrev main_call1_call0_call0_v6 : Ref sig .tc := ⟨.hbm, 69, rfl⟩
abbrev main_call1_call0_call0_c_0 : Ref sig .tc := ⟨.hbm, 70, rfl⟩
abbrev main_call1_call0_call0_v7 : Ref sig .tc := ⟨.hbm, 71, rfl⟩
abbrev main_call1_call0_call0_v8 : Ref sig .tc := ⟨.hbm, 72, rfl⟩
abbrev main_call1_call0_call0_c_1 : Ref sig .tc := ⟨.hbm, 73, rfl⟩
abbrev main_call1_call0_call0_v9 : Ref sig .tc := ⟨.hbm, 74, rfl⟩
abbrev main_call1_call0_call0_v10 : Ref sig .tc := ⟨.hbm, 75, rfl⟩
abbrev main_call1_call0_call0_v11 : Ref sig .tc := ⟨.hbm, 76, rfl⟩
abbrev main_call1_call0_call0_v12 : Ref sig .tc := ⟨.hbm, 77, rfl⟩
abbrev main_call1_call0_call0_v13 : Ref sig .tc := ⟨.hbm, 78, rfl⟩
abbrev main_call1_call0_call0_c_2 : Ref sig .tc := ⟨.hbm, 79, rfl⟩
abbrev main_call1_call0_call0_v14 : Ref sig .tc := ⟨.hbm, 80, rfl⟩
abbrev main_call1_call0_call0_v15 : Ref sig .tc := ⟨.hbm, 81, rfl⟩
abbrev main_call1_call0_call0_c_3 : Ref sig .tc := ⟨.hbm, 82, rfl⟩
abbrev main_call1_call0_call0_v16 : Ref sig .tc := ⟨.hbm, 83, rfl⟩
abbrev main_call1_call0_call0_v17 : Ref sig .tc := ⟨.hbm, 84, rfl⟩
abbrev main_call1_call0_call0_v18 : Ref sig .tc := ⟨.hbm, 85, rfl⟩
abbrev main_call1_call0_call0_v19 : Ref sig .tc := ⟨.hbm, 86, rfl⟩
abbrev main_call1_call0_call0_v20 : Ref sig .tc := ⟨.hbm, 87, rfl⟩
abbrev main_call1_call0_call0_c_4 : Ref sig .tc := ⟨.hbm, 88, rfl⟩
abbrev main_call1_call0_call0_v21 : Ref sig .tc := ⟨.hbm, 89, rfl⟩
abbrev main_call1_call0_call0_v22 : Ref sig .tc := ⟨.hbm, 90, rfl⟩
abbrev main_call1_call0_call0_c_5 : Ref sig .tc := ⟨.hbm, 91, rfl⟩
abbrev main_call1_call0_call0_v23 : Ref sig .tc := ⟨.hbm, 92, rfl⟩
abbrev main_call1_call0_call0_v24 : Ref sig .tc := ⟨.hbm, 93, rfl⟩
abbrev main_call1_call0_call0_v25 : Ref sig .tc := ⟨.hbm, 94, rfl⟩
abbrev main_call1_call0_call0_v26 : Ref sig .tc := ⟨.hbm, 95, rfl⟩
abbrev main_call1_call0_call0_v27 : Ref sig .tc := ⟨.hbm, 96, rfl⟩
abbrev main_call1_call0_call0_c_6 : Ref sig .tc := ⟨.hbm, 97, rfl⟩
abbrev main_call1_call0_call0_v28 : Ref sig .tc := ⟨.hbm, 98, rfl⟩
abbrev main_call1_call0_call0_v29 : Ref sig .tc := ⟨.hbm, 99, rfl⟩
abbrev main_call1_call0_call0_c_7 : Ref sig .tc := ⟨.hbm, 100, rfl⟩
abbrev main_call1_call0_call0_v30 : Ref sig .tc := ⟨.hbm, 101, rfl⟩
abbrev main_call1_call0_call0_v31 : Ref sig .tc := ⟨.hbm, 102, rfl⟩
abbrev main_call1_call0_call0_v32 : Ref sig .tc := ⟨.hbm, 103, rfl⟩
abbrev main_call1_call0_call0_v33 : Ref sig .tc := ⟨.hbm, 104, rfl⟩
abbrev main_call1_call0_call0_v34 : Ref sig .tc := ⟨.hbm, 105, rfl⟩
abbrev main_call1_call0_call0_v35 : Ref sig .tc := ⟨.hbm, 106, rfl⟩
abbrev main_call1_call0_call0_v36 : Ref sig .tc := ⟨.hbm, 107, rfl⟩
abbrev main_call1_call0_call0_v37 : Ref sig .tc := ⟨.hbm, 108, rfl⟩
abbrev main_call1_call0_call0_c_8 : Ref sig .tc := ⟨.hbm, 109, rfl⟩
abbrev main_call1_call0_call0_v38 : Ref sig .tc := ⟨.hbm, 110, rfl⟩
abbrev main_call1_call0_call0_v39 : Ref sig .tc := ⟨.hbm, 111, rfl⟩
abbrev main_call1_call0_call0_v40 : Ref sig .tc := ⟨.hbm, 112, rfl⟩
abbrev main_call1_call0_call0_c_9 : Ref sig .tc := ⟨.hbm, 113, rfl⟩
abbrev main_call1_call0_call0_v41 : Ref sig .tc := ⟨.hbm, 114, rfl⟩
abbrev main_call1_call0_call0_v42 : Ref sig .tc := ⟨.hbm, 115, rfl⟩
abbrev main_call1_call0_call0_c_10 : Ref sig .tc := ⟨.hbm, 116, rfl⟩
abbrev main_call1_call0_call0_v43 : Ref sig .tc := ⟨.hbm, 117, rfl⟩
abbrev main_call1_call0_call0_v44 : Ref sig .tc := ⟨.hbm, 118, rfl⟩
abbrev main_call1_call0_call0_v45 : Ref sig .tc := ⟨.hbm, 119, rfl⟩
abbrev main_call1_call0_call0_v46 : Ref sig .tc := ⟨.hbm, 120, rfl⟩
abbrev main_call1_call0_call0_v47 : Ref sig .tc := ⟨.hbm, 121, rfl⟩
abbrev main_call1_call0_call0_c_11 : Ref sig .tc := ⟨.hbm, 122, rfl⟩
abbrev main_call1_call0_call0_v48 : Ref sig .tc := ⟨.hbm, 123, rfl⟩
abbrev main_call1_call0_call0_v49 : Ref sig .tc := ⟨.hbm, 124, rfl⟩
abbrev main_call1_call0_call0_c_12 : Ref sig .tc := ⟨.hbm, 125, rfl⟩
abbrev main_call1_call0_call0_v50 : Ref sig .tc := ⟨.hbm, 126, rfl⟩
abbrev main_call1_call0_call0_v51 : Ref sig .tc := ⟨.hbm, 127, rfl⟩
abbrev main_call1_call0_call0_v52 : Ref sig .tc := ⟨.hbm, 128, rfl⟩
abbrev main_call1_call0_call0_v53 : Ref sig .tc := ⟨.hbm, 129, rfl⟩
abbrev main_call1_call0_call0_v54 : Ref sig .tc := ⟨.hbm, 130, rfl⟩
abbrev main_call1_call0_call0_c_13 : Ref sig .tc := ⟨.hbm, 131, rfl⟩
abbrev main_call1_call0_call0_v55 : Ref sig .tc := ⟨.hbm, 132, rfl⟩
abbrev main_call1_call0_call0_v56 : Ref sig .tc := ⟨.hbm, 133, rfl⟩
abbrev main_call1_call0_call0_c_14 : Ref sig .tc := ⟨.hbm, 134, rfl⟩
abbrev main_call1_call0_call0_v57 : Ref sig .tc := ⟨.hbm, 135, rfl⟩
abbrev main_call1_call0_call0_v58 : Ref sig .tc := ⟨.hbm, 136, rfl⟩
abbrev main_call1_call0_call0_v59 : Ref sig .tc := ⟨.hbm, 137, rfl⟩
abbrev main_call1_call0_call0_v60 : Ref sig .tc := ⟨.hbm, 138, rfl⟩
abbrev main_call1_call0_call0_v61 : Ref sig .tc := ⟨.hbm, 139, rfl⟩
abbrev main_call1_call0_call0_c_15 : Ref sig .tc := ⟨.hbm, 140, rfl⟩
abbrev main_call1_call0_call0_v62 : Ref sig .tc := ⟨.hbm, 141, rfl⟩
abbrev main_call1_call0_call0_v63 : Ref sig .tc := ⟨.hbm, 142, rfl⟩
abbrev main_call1_call0_call0_c_16 : Ref sig .tc := ⟨.hbm, 143, rfl⟩
abbrev main_call1_call0_call0_v64 : Ref sig .tc := ⟨.hbm, 144, rfl⟩
abbrev main_call1_call0_call0_v65 : Ref sig .tc := ⟨.hbm, 145, rfl⟩
abbrev main_call1_call0_call0_v66 : Ref sig .tc := ⟨.hbm, 146, rfl⟩
abbrev main_call1_call0_call0_v67 : Ref sig .tc := ⟨.hbm, 147, rfl⟩
abbrev main_call1_call0_call0_v68 : Ref sig .tc := ⟨.hbm, 148, rfl⟩
abbrev main_call1_call0_call0_v69 : Ref sig .tc := ⟨.hbm, 149, rfl⟩
abbrev main_call1_call0_call0_v70 : Ref sig .tc := ⟨.hbm, 150, rfl⟩
abbrev main_call1_call0_call0_v71 : Ref sig .tc := ⟨.hbm, 151, rfl⟩
abbrev main_call1_call0_call0_c_17 : Ref sig .tc := ⟨.hbm, 152, rfl⟩
abbrev main_call1_call0_call0_v72 : Ref sig .tc := ⟨.hbm, 153, rfl⟩
abbrev main_call1_call0_call0_v73 : Ref sig .tc := ⟨.hbm, 154, rfl⟩
abbrev main_call1_call0_call0_v74 : Ref sig .tc := ⟨.hbm, 155, rfl⟩
abbrev main_call1_call0_call0_c_18 : Ref sig .tc := ⟨.hbm, 156, rfl⟩
abbrev main_call1_call0_call0_v75 : Ref sig .tc := ⟨.hbm, 157, rfl⟩
abbrev main_call1_call0_call0_v76 : Ref sig .tc := ⟨.hbm, 158, rfl⟩
abbrev main_call1_call0_call0_c_19 : Ref sig .tc := ⟨.hbm, 159, rfl⟩
abbrev main_call1_call0_call0_v77 : Ref sig .tc := ⟨.hbm, 160, rfl⟩
abbrev main_call1_call0_call0_v78 : Ref sig .tc := ⟨.hbm, 161, rfl⟩
abbrev main_call1_call0_call0_v79 : Ref sig .tc := ⟨.hbm, 162, rfl⟩
abbrev main_call1_call0_call0_v80 : Ref sig .tc := ⟨.hbm, 163, rfl⟩
abbrev main_call1_call0_call0_v81 : Ref sig .tc := ⟨.hbm, 164, rfl⟩
abbrev main_call1_call0_call0_c_20 : Ref sig .tc := ⟨.hbm, 165, rfl⟩
abbrev main_call1_call0_call0_v82 : Ref sig .tc := ⟨.hbm, 166, rfl⟩
abbrev main_call1_call0_call0_v83 : Ref sig .tc := ⟨.hbm, 167, rfl⟩
abbrev main_call1_call0_call0_c_21 : Ref sig .tc := ⟨.hbm, 168, rfl⟩
abbrev main_call1_call0_call0_v84 : Ref sig .tc := ⟨.hbm, 169, rfl⟩
abbrev main_call1_call0_call0_v85 : Ref sig .tc := ⟨.hbm, 170, rfl⟩
abbrev main_call1_call0_call0_v86 : Ref sig .tc := ⟨.hbm, 171, rfl⟩
abbrev main_call1_call0_call0_v87 : Ref sig .tc := ⟨.hbm, 172, rfl⟩
abbrev main_call1_call0_call0_v88 : Ref sig .tc := ⟨.hbm, 173, rfl⟩
abbrev main_call1_call0_call0_c_22 : Ref sig .tc := ⟨.hbm, 174, rfl⟩
abbrev main_call1_call0_call0_v89 : Ref sig .tc := ⟨.hbm, 175, rfl⟩
abbrev main_call1_call0_call0_v90 : Ref sig .tc := ⟨.hbm, 176, rfl⟩
abbrev main_call1_call0_call0_c_23 : Ref sig .tc := ⟨.hbm, 177, rfl⟩
abbrev main_call1_call0_call0_v91 : Ref sig .tc := ⟨.hbm, 178, rfl⟩
abbrev main_call1_call0_call0_v92 : Ref sig .tc := ⟨.hbm, 179, rfl⟩
abbrev main_call1_call0_call0_v93 : Ref sig .tc := ⟨.hbm, 180, rfl⟩
abbrev main_call1_call0_call0_v94 : Ref sig .tc := ⟨.hbm, 181, rfl⟩
abbrev main_call1_call0_call0_v95 : Ref sig .tc := ⟨.hbm, 182, rfl⟩
abbrev main_call1_call0_call0_c_24 : Ref sig .tc := ⟨.hbm, 183, rfl⟩
abbrev main_call1_call0_call0_v96 : Ref sig .tc := ⟨.hbm, 184, rfl⟩
abbrev main_call1_call0_call0_v97 : Ref sig .tc := ⟨.hbm, 185, rfl⟩
abbrev main_call1_call0_call0_c_25 : Ref sig .tc := ⟨.hbm, 186, rfl⟩
abbrev main_call1_call0_call0_v98 : Ref sig .tc := ⟨.hbm, 187, rfl⟩
abbrev main_call1_call0_call0_v99 : Ref sig .tc := ⟨.hbm, 188, rfl⟩
abbrev main_call1_call0_call0_v100 : Ref sig .tc := ⟨.hbm, 189, rfl⟩
abbrev main_call1_call0_call0_v101 : Ref sig .tc := ⟨.hbm, 190, rfl⟩
abbrev main_call1_call0_call0_v102 : Ref sig .tc := ⟨.hbm, 191, rfl⟩
abbrev main_call1_call0_call0_v103 : Ref sig .tc := ⟨.hbm, 192, rfl⟩
abbrev main_call1_call0_call0_v104 : Ref sig .tc := ⟨.hbm, 193, rfl⟩
abbrev main_call1_call0_call0_v105 : Ref sig .tc := ⟨.hbm, 194, rfl⟩
abbrev main_call1_call0_call0_c_26 : Ref sig .tc := ⟨.hbm, 195, rfl⟩
abbrev main_call1_call0_call0_v106 : Ref sig .tc := ⟨.hbm, 196, rfl⟩
abbrev main_call1_call0_call0_v107 : Ref sig .tc := ⟨.hbm, 197, rfl⟩
abbrev main_call1_call0_call0_v108 : Ref sig .tc := ⟨.hbm, 198, rfl⟩
abbrev main_call1_call0_call0_c_27 : Ref sig .tc := ⟨.hbm, 199, rfl⟩
abbrev main_call1_call0_call0_v109 : Ref sig .tc := ⟨.hbm, 200, rfl⟩
abbrev main_call1_call0_call0_v110 : Ref sig .tc := ⟨.hbm, 201, rfl⟩
abbrev main_call1_call0_call0_c_28 : Ref sig .tc := ⟨.hbm, 202, rfl⟩
abbrev main_call1_call0_call0_v111 : Ref sig .tc := ⟨.hbm, 203, rfl⟩
abbrev main_call1_call0_call0_v112 : Ref sig .tc := ⟨.hbm, 204, rfl⟩
abbrev main_call1_call0_call0_v113 : Ref sig .tc := ⟨.hbm, 205, rfl⟩
abbrev main_call1_call0_call0_v114 : Ref sig .tc := ⟨.hbm, 206, rfl⟩
abbrev main_call1_call0_call0_v115 : Ref sig .tc := ⟨.hbm, 207, rfl⟩
abbrev main_call1_call0_call0_c_29 : Ref sig .tc := ⟨.hbm, 208, rfl⟩
abbrev main_call1_call0_call0_v116 : Ref sig .tc := ⟨.hbm, 209, rfl⟩
abbrev main_call1_call0_call0_v117 : Ref sig .tc := ⟨.hbm, 210, rfl⟩
abbrev main_call1_call0_call0_c_30 : Ref sig .tc := ⟨.hbm, 211, rfl⟩
abbrev main_call1_call0_call0_v118 : Ref sig .tc := ⟨.hbm, 212, rfl⟩
abbrev main_call1_call0_call0_v119 : Ref sig .tc := ⟨.hbm, 213, rfl⟩
abbrev main_call1_call0_call0_v120 : Ref sig .tc := ⟨.hbm, 214, rfl⟩
abbrev main_call1_call0_call0_v121 : Ref sig .tc := ⟨.hbm, 215, rfl⟩
abbrev main_call1_call0_call0_v122 : Ref sig .tc := ⟨.hbm, 216, rfl⟩
abbrev main_call1_call0_call0_c_31 : Ref sig .tc := ⟨.hbm, 217, rfl⟩
abbrev main_call1_call0_call0_v123 : Ref sig .tc := ⟨.hbm, 218, rfl⟩
abbrev main_call1_call0_call0_v124 : Ref sig .tc := ⟨.hbm, 219, rfl⟩
abbrev main_call1_call0_call0_c_32 : Ref sig .tc := ⟨.hbm, 220, rfl⟩
abbrev main_call1_call0_call0_v125 : Ref sig .tc := ⟨.hbm, 221, rfl⟩
abbrev main_call1_call0_call0_v126 : Ref sig .tc := ⟨.hbm, 222, rfl⟩
abbrev main_call1_call0_call0_v127 : Ref sig .tc := ⟨.hbm, 223, rfl⟩
abbrev main_call1_call0_call0_v128 : Ref sig .tc := ⟨.hbm, 224, rfl⟩
abbrev main_call1_call0_call0_v129 : Ref sig .tc := ⟨.hbm, 225, rfl⟩
abbrev main_call1_call0_call0_c_33 : Ref sig .tc := ⟨.hbm, 226, rfl⟩
abbrev main_call1_call0_call0_v130 : Ref sig .tc := ⟨.hbm, 227, rfl⟩
abbrev main_call1_call0_call0_v131 : Ref sig .tc := ⟨.hbm, 228, rfl⟩
abbrev main_call1_call0_call0_c_34 : Ref sig .tc := ⟨.hbm, 229, rfl⟩
abbrev main_call1_call0_call0_v132 : Ref sig .tc := ⟨.hbm, 230, rfl⟩
abbrev main_call1_call0_call0_v133 : Ref sig .tc := ⟨.hbm, 231, rfl⟩
abbrev main_call1_call0_call0_v134 : Ref sig .tc := ⟨.hbm, 232, rfl⟩
abbrev main_call1_call0_call0_v135 : Ref sig .tc := ⟨.hbm, 233, rfl⟩
abbrev main_call1_call0_call0_v136 : Ref sig .tc := ⟨.hbm, 234, rfl⟩
abbrev main_call1_call0_call0_v137 : Ref sig .tc := ⟨.hbm, 235, rfl⟩
abbrev main_call1_call0_call0_v138 : Ref sig .tc := ⟨.hbm, 236, rfl⟩
abbrev main_call1_call0_call0_v139 : Ref sig .tc := ⟨.hbm, 237, rfl⟩
abbrev main_call1_call0_call0_c_35 : Ref sig .tc := ⟨.hbm, 238, rfl⟩
abbrev main_call1_call0_call0_v140 : Ref sig .tc := ⟨.hbm, 239, rfl⟩
abbrev main_call1_call0_call0_v141 : Ref sig .tc := ⟨.hbm, 240, rfl⟩
abbrev main_call1_call0_call0_v142 : Ref sig .tc := ⟨.hbm, 241, rfl⟩
abbrev main_call1_call0_call0_c_36 : Ref sig .tc := ⟨.hbm, 242, rfl⟩
abbrev main_call1_call0_call0_v143 : Ref sig .tc := ⟨.hbm, 243, rfl⟩
abbrev main_call1_call0_call0_v144 : Ref sig .tc := ⟨.hbm, 244, rfl⟩
abbrev main_call1_call0_call0_c_37 : Ref sig .tc := ⟨.hbm, 245, rfl⟩
abbrev main_call1_call0_call0_v145 : Ref sig .tc := ⟨.hbm, 246, rfl⟩
abbrev main_call1_call0_call0_v146 : Ref sig .tc := ⟨.hbm, 247, rfl⟩
abbrev main_call1_call0_call0_v147 : Ref sig .tc := ⟨.hbm, 248, rfl⟩
abbrev main_call1_call0_call0_v148 : Ref sig .tc := ⟨.hbm, 249, rfl⟩
abbrev main_call1_call0_call0_v149 : Ref sig .tc := ⟨.hbm, 250, rfl⟩
abbrev main_call1_call0_call0_c_38 : Ref sig .tc := ⟨.hbm, 251, rfl⟩
abbrev main_call1_call0_call0_v150 : Ref sig .tc := ⟨.hbm, 252, rfl⟩
abbrev main_call1_call0_call0_v151 : Ref sig .tc := ⟨.hbm, 253, rfl⟩
abbrev main_call1_call0_call0_c_39 : Ref sig .tc := ⟨.hbm, 254, rfl⟩
abbrev main_call1_call0_call0_v152 : Ref sig .tc := ⟨.hbm, 255, rfl⟩
abbrev main_call1_call0_call0_v153 : Ref sig .tc := ⟨.hbm, 256, rfl⟩
abbrev main_call1_call0_call0_v154 : Ref sig .tc := ⟨.hbm, 257, rfl⟩
abbrev main_call1_call0_call0_v155 : Ref sig .tc := ⟨.hbm, 258, rfl⟩
abbrev main_call1_call0_call0_v156 : Ref sig .tc := ⟨.hbm, 259, rfl⟩
abbrev main_call1_call0_call0_c_40 : Ref sig .tc := ⟨.hbm, 260, rfl⟩
abbrev main_call1_call0_call0_v157 : Ref sig .tc := ⟨.hbm, 261, rfl⟩
abbrev main_call1_call0_call0_v158 : Ref sig .tc := ⟨.hbm, 262, rfl⟩
abbrev main_call1_call0_call0_c_41 : Ref sig .tc := ⟨.hbm, 263, rfl⟩
abbrev main_call1_call0_call0_v159 : Ref sig .tc := ⟨.hbm, 264, rfl⟩
abbrev main_call1_call0_call0_v160 : Ref sig .tc := ⟨.hbm, 265, rfl⟩
abbrev main_call1_call0_call0_v161 : Ref sig .tc := ⟨.hbm, 266, rfl⟩
abbrev main_call1_call0_call0_v162 : Ref sig .tc := ⟨.hbm, 267, rfl⟩
abbrev main_call1_call0_call0_v163 : Ref sig .tc := ⟨.hbm, 268, rfl⟩
abbrev main_call1_call0_call0_c_42 : Ref sig .tc := ⟨.hbm, 269, rfl⟩
abbrev main_call1_call0_call0_v164 : Ref sig .tc := ⟨.hbm, 270, rfl⟩
abbrev main_call1_call0_call0_v165 : Ref sig .tc := ⟨.hbm, 271, rfl⟩
abbrev main_call1_call0_call0_c_43 : Ref sig .tc := ⟨.hbm, 272, rfl⟩
abbrev main_call1_call0_call0_v166 : Ref sig .tc := ⟨.hbm, 273, rfl⟩
abbrev main_call1_call0_call0_v167 : Ref sig .tc := ⟨.hbm, 274, rfl⟩
abbrev main_call1_call0_call0_v168 : Ref sig .tc := ⟨.hbm, 275, rfl⟩
abbrev main_call1_call0_call0_v169 : Ref sig .tc := ⟨.hbm, 276, rfl⟩
abbrev main_call1_call0_call0_v170 : Ref sig .tc := ⟨.hbm, 277, rfl⟩
abbrev main_call1_call0_v18_0 : Ref sig .tc := ⟨.hbm, 278, rfl⟩
abbrev main_call1_call0_call0_v172 : Ref sig .tc := ⟨.hbm, 279, rfl⟩
abbrev main_call1_call0_call0_v173 : Ref sig .tc := ⟨.hbm, 280, rfl⟩
abbrev main_call1_call0_call0_c_44 : Ref sig .tc := ⟨.hbm, 281, rfl⟩
abbrev main_call1_call0_call0_v174 : Ref sig .tc := ⟨.hbm, 282, rfl⟩
abbrev main_call1_call0_v18_1 : Ref sig .tc := ⟨.hbm, 283, rfl⟩
abbrev main_call1_call0_v19 : Ref sig .tc := ⟨.hbm, 284, rfl⟩
abbrev main_call1_call0_c_2 : Ref sig .tc := ⟨.hbm, 285, rfl⟩
abbrev main_call1_call0_v20 : Ref sig .tc := ⟨.hbm, 286, rfl⟩
abbrev main_call1_call0_v21 : Ref sig .tc := ⟨.hbm, 287, rfl⟩
abbrev main_call1_call0_c_3 : Ref sig .tc := ⟨.hbm, 288, rfl⟩
abbrev main_call1_call0_v22 : Ref sig .tc := ⟨.hbm, 289, rfl⟩
abbrev main_call1_call0_v23 : Ref sig .tc := ⟨.hbm, 290, rfl⟩
abbrev main_call1_call0_v24 : Ref sig .tc := ⟨.hbm, 291, rfl⟩
abbrev main_call1_call0_cst : Ref sig .tc := ⟨.hbm, 292, rfl⟩
abbrev main_call1_call0_v25 : Ref sig .tc := ⟨.hbm, 293, rfl⟩
abbrev main_call1_call0_v26 : Ref sig .tc := ⟨.hbm, 294, rfl⟩
abbrev main_call1_call0_v27 : Ref sig .tc := ⟨.hbm, 295, rfl⟩
abbrev main_call1_call0_v28 : Ref sig .tc := ⟨.hbm, 296, rfl⟩
abbrev main_call1_call0_v29 : Ref sig .tc := ⟨.hbm, 297, rfl⟩
abbrev main_call1_call0_v30 : Ref sig .tc := ⟨.hbm, 298, rfl⟩
abbrev main_call1_call0_v31 : Ref sig .tc := ⟨.hbm, 299, rfl⟩
abbrev main_call1_call0_v32 : Ref sig .tc := ⟨.hbm, 300, rfl⟩
abbrev main_call1_v0 : Ref sig .tc := ⟨.hbm, 301, rfl⟩
abbrev main_call1_v1 : Ref sig .tc := ⟨.hbm, 302, rfl⟩
abbrev main_call1_v2 : Ref sig .tc := ⟨.hbm, 303, rfl⟩
abbrev main_call1_v3 : Ref sig .tc := ⟨.hbm, 304, rfl⟩
abbrev main_v26 : Ref sig .tc := ⟨.hbm, 305, rfl⟩
abbrev main_v27 : Ref sig .tc := ⟨.hbm, 306, rfl⟩
abbrev main_call2_v0 : Ref sig .tc := ⟨.hbm, 307, rfl⟩
abbrev main_call2_cst : Ref sig .tc := ⟨.hbm, 308, rfl⟩
abbrev main_call2_c : Ref sig .tc := ⟨.hbm, 309, rfl⟩
abbrev main_call2_v1_0 : Ref sig .tc := ⟨.hbm, 310, rfl⟩
abbrev main_v28 : Ref sig .tc := ⟨.hbm, 311, rfl⟩
abbrev main_v29 : Ref sig .tc := ⟨.hbm, 312, rfl⟩

abbrev nD : Nat := 1
abbrev τ : Topo := Topo.v7x

variable {F : FTy → Type} [FloatOps F]
-- ==== Proof.RefLine.lean ====
module

public import proofs.«01_k».proof.Proof.Gen.ReferenceIdeal
public import proofs.«01_k».proof.Defs
public import Idealize.ShloMosaic.Lib.Claim
public import Idealize.ShloMosaic.Lib.StableHlo.RunHlo

@[expose] public section

set_option maxRecDepth 16384

noncomputable section

namespace Cert.ReferenceIdeal.Line

open Idealize.ShloMosaic Idealize.SL.Sem Idealize.ShloMosaic.StableHlo
open Cert.ReferenceIdeal

/-- A program that runs the operations `a`, then `n`, then `b`. -/
def IsSplit {nD : Nat} {τ : Topo} {sig : RefSig} {Val : EltTy → Type} {Λ : Labels}
    (p : Prog (TpuEff nD τ sig Val Λ .tc) PUnit) (n a b : List (HloOp τ sig Val)) : Prop := IsSeq p (a ++ (n ++ b))

/-- One operation more in front. -/
theorem IsSplit.cons {nD : Nat} {τ : Topo} {sig : RefSig} {Val : EltTy → Type} {Λ : Labels} {op : HloOp τ sig Val}
    {k : Prog (TpuEff nD τ sig Val Λ .tc) PUnit} {n a b : List (HloOp τ sig Val)} (h : IsSplit k n a b) :
    IsSplit ((hlo rfl op fun _ => .ret (⟨⟩ : PUnit)) >>= fun _ => k) n (op :: a) b := IsSeq.cons h

/-- The middle part, then the rest. -/
theorem IsSplit.mid {nD : Nat} {τ : Topo} {sig : RefSig} {Val : EltTy → Type} {Λ : Labels}
    {p q : Prog (TpuEff nD τ sig Val Λ .tc) PUnit} {n b : List (HloOp τ sig Val)}
    (hp : IsSeq p n) (hq : IsSeq q b) : IsSplit (p >>= fun _ => q) n [] b := by
  unfold IsSplit IsSeq at *
  rw [hp, hq, List.nil_append, seq_append]

set_option maxHeartbeats 4000000 in
/-- The operations that draw the Gumbel noise from the key, read off the printed program. -/
def noiseOps : { ops : List (HloOp τ sig (Elt Ideal)) //
    IsSeq (nD := nD) (fn_gumbel.body (F := Ideal) (.of main_v25) main_call1) ops } := by
  apply Subtype.mk
  hlo_seq

/-- The two outer lists with their proof, as one value. -/
def pack (a b : List (HloOp τ sig (Elt Ideal))) (h : ∀ d, IsSplit (main (F := Ideal) d) noiseOps.1 a b) :
    { ab : List (HloOp τ sig (Elt Ideal)) × List (HloOp τ sig (Elt Ideal)) //
      ∀ d, IsSplit (main (F := Ideal) d) noiseOps.1 ab.1 ab.2 } := ⟨(a, b), h⟩

set_option maxHeartbeats 4000000 in
/-- The operations before and after the noise, read off the printed program. -/
def outerOps : { ab : List (HloOp τ sig (Elt Ideal)) × List (HloOp τ sig (Elt Ideal)) //
    ∀ d, IsSplit (main (F := Ideal) d) noiseOps.1 ab.1 ab.2 } := by
  apply pack
  intro d
  iterate 32 apply IsSplit.cons
  apply IsSplit.mid noiseOps.2
  hlo_seq

end Cert.ReferenceIdeal.Line
-- ==== Proof.RefRun.lean ====
module

public import proofs.«01_k».proof.Proof.RefLine
public import Idealize.ShloMosaic.Lib.StableHlo.RunRead

@[expose] public section

set_option maxRecDepth 16384

noncomputable section

namespace Cert.ReferenceIdeal.Line

open Idealize.ShloMosaic Idealize.SL.Sem Idealize.ShloMosaic.StableHlo
open Cert.ReferenceIdeal

/-- The reference's whole list of operations: the scores, the noise, the choice. -/
abbrev line : List (HloOp τ sig (Elt Ideal)) := outerOps.1.1 ++ (noiseOps.1 ++ outerOps.1.2)

set_option maxHeartbeats 40000000 in
/-- Every operation works on buffers of the TensorCore. -/
theorem line_sub : line.Forall fun op => op.bufs ⊆ tcRefs τ sig := by
  simp [line, outerOps, noiseOps, pack]

set_option maxHeartbeats 40000000 in
/-- Every operation's result is determined by what it reads. -/
theorem line_fresh : ∀ op ∈ line, op.fresh = ∅ := by
  intro _ h
  (repeat (cases h with | head => rfl | tail _ h => ?_))
  exact nomatch h

/-- The reference ends with every buffer as the list of operations leaves it. -/
theorem run_line (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b)
        = after line (launchContents m d) (Proc.devRef .tc b) :=
  run_hlo _ _ outerOps.2 (by decide) (by decide) line_sub line_fresh m ρ

/-- The reference's logits: the hidden layer of the joined features, its leaky rectifier, the scores, and the column
    of minus infinity. -/
def logits (x0 : FVec Ideal S16384x32 .f32) (x1 : FVec Ideal S16384x50 .f32) (x2 : FVec Ideal S16384x50x4 .f32)
    (x3 : FVec Ideal S282x256 .f32) (x4 : FVec Ideal S256 .f32) (x5 : FVec Ideal S256x50 .f32)
    (x6 : FVec Ideal S50 .f32) : FVec Ideal S16384x51 .f32 :=
  let feat : FVec Ideal S16384x282 .f32 := concatenate S16384x282 1
    [⟨S16384x32, x0⟩,
     ⟨S16384x50, shapeCast S16384x50 (broadcastInDim S16384x50x1 ![0, 1] Gen.bcast_S16384x50_S16384x50x1_0_1 x1)
       Gen.shapeCasts_S16384x50x1_S16384x50⟩,
     ⟨S16384x200, shapeCast S16384x200 x2 Gen.shapeCasts_S16384x50x4_S16384x200⟩]
    Gen.concatenates_S16384x32_S16384x50_S16384x200_S16384x282_d1
  let h : FVec Ideal S16384x256 .f32 := addf (Host.dotGeneral dot_S16384x282_S282x256_S16384x256_1_0_0_1_n_n none feat x3)
    (broadcastInDim S16384x256 ![0, 1] Gen.bcast_S1x256_S16384x256_0_1 (broadcastInDim S1x256 ![1] Gen.bcast_S256_S1x256_1 x4))
  let z : FVec Ideal S16384x256 .f32 := broadcastInDim S16384x256 ![] Gen.bcast_S_S16384x256 (constant S_ .f32 0x00000000#32)
  let k : FVec Ideal S16384x256 .f32 := broadcastInDim S16384x256 ![] Gen.bcast_S_S16384x256 (constant S_ .f32 0x3E99999A#32)
  let a : FVec Ideal S16384x256 .f32 := select (cmpf .oge h z) h (mulf k h)
  let s : FVec Ideal S16384x50 .f32 := addf (Host.dotGeneral dot_S16384x256_S256x50_S16384x50_1_0_0_1_n_n none a x5)
    (broadcastInDim S16384x50 ![0, 1] Gen.bcast_S1x50_S16384x50_0_1 (broadcastInDim S1x50 ![1] Gen.bcast_S50_S1x50_1 x6))
  concatenate S16384x51 1
    [⟨S16384x50, s⟩, ⟨S16384x1, broadcastInDim S16384x1 ![] Gen.bcast_S_S16384x1 (constant S_ .f32 0xFF800000#32)⟩]
    Gen.concatenates_S16384x50_S16384x1_S16384x51_d1

/-- The column of the greatest entry of each row, the first such. -/
def pick (x : FVec Ideal S16384x51 .f32) : IVec S16384x1 32 :=
  broadcastInDim S16384x1 ![0] Gen.bcast_S16384_S16384x1_0 fun j =>
    (Host.argReduce reducer_argmax_f32_i32 x (iotaInDim S16384x51 32 1) (constant S_ .f32 0xFF800000#32)
      (constantI S_ 32 0#32) Gen.reducesTo_S16384x51_S16384_d1 Gen.h_S_ j).2

variable (U : Valuation τ sig (Elt Ideal))

set_option maxHeartbeats 4000000 in
/-- The last stretch: the noise is added to the logits and each row's greatest entry is chosen. -/
theorem read_pick : (after outerOps.1.2 U (Proc.devRef .tc main_v29) : IVec S16384x1 32)
    = pick (addf (F := Ideal) (s := S16384x51) (φ := .f32) (U (Proc.devRef .tc main_v18)) (U (Proc.devRef .tc main_v26))) := by
  unfold outerOps pack
  after_reads_simp
  rfl

set_option maxHeartbeats 4000000 in
/-- The first stretch leaves the logits of the arguments. -/
theorem read_logits : (after outerOps.1.1 U (Proc.devRef .tc main_v18) : FVec Ideal S16384x51 .f32)
    = logits (U (Proc.devRef .tc main_arg0)) (U (Proc.devRef .tc main_arg1)) (U (Proc.devRef .tc main_arg2))
        (U (Proc.devRef .tc main_arg3)) (U (Proc.devRef .tc main_arg4)) (U (Proc.devRef .tc main_arg5))
        (U (Proc.devRef .tc main_arg6)) := by
  unfold outerOps pack
  after_reads_simp
  rfl

set_option maxHeartbeats 4000000 in
/-- Drawing the noise leaves the logits as they are. -/
theorem keep_logits : after noiseOps.1 U (Proc.devRef .tc main_v18) = U (Proc.devRef .tc main_v18) := by
  unfold noiseOps
  after_reads_simp

/-- What the reference returns: the choice among the logits with the noise its own operations draw. -/
theorem read_result : (after line U (Proc.devRef .tc main_v29) : IVec S16384x1 32)
    = pick (addf (F := Ideal) (s := S16384x51) (φ := .f32)
        (logits (U (Proc.devRef .tc main_arg0)) (U (Proc.devRef .tc main_arg1)) (U (Proc.devRef .tc main_arg2))
          (U (Proc.devRef .tc main_arg3)) (U (Proc.devRef .tc main_arg4)) (U (Proc.devRef .tc main_arg5))
          (U (Proc.devRef .tc main_arg6)))
        (after noiseOps.1 (after outerOps.1.1 U) (Proc.devRef .tc main_v26))) := by
  unfold line
  rw [after_append, after_append, read_pick, keep_logits, read_logits]

end Cert.ReferenceIdeal.Line
-- ==== Proof.RefFrame.lean ====
module

public import proofs.«01_k».proof.Proof.RefLine
public import Idealize.ShloMosaic.Lib.Quiescent

@[expose] public section

set_option maxRecDepth 16384

noncomputable section

namespace Cert.ReferenceIdeal.Line

open Idealize.ShloMosaic Idealize.SL.Sem Idealize.ShloMosaic.StableHlo
open Cert.ReferenceIdeal

set_option maxHeartbeats 40000000 in
/-- The reference runs to its end, leaves its arguments as they were and no semaphore raised. -/
theorem frame : Cert.quiescent_ReferenceIdeal := by
  unfold Cert.quiescent_ReferenceIdeal
  intro m g h
  hlo_run
  · intro c; exact ⟨trivial, trivial, trivial, trivial, trivial, trivial, trivial⟩
  · exact sem_eq_zero_of_no_sems (by decide) _

end Cert.ReferenceIdeal.Line
-- ==== Proof.Best.lean ====
module

public import Idealize.ShloMosaic.PureOps.Ideal.Laws
public import Idealize.ShloMosaic.Lib.ValueIdx
public import Idealize.ShloMosaic.Lib.SortNet.Extract

@[expose] public section

noncomputable section

/-! The greatest entry of a finite row, the first such: what it is, that there is one and only one, and which folds find
it. -/

namespace Cert.Best

open Idealize.ShloMosaic

/-- `k` is the place of the first greatest entry of `y`. -/
def IsFirst {n : Nat} (y : Fin n → EReal) (k : Fin n) : Prop :=
  (∀ j, y j ≤ y k) ∧ ∀ j, j < k → y j < y k

/-- A row that is not empty has a first greatest entry. -/
theorem exists_isFirst {n : Nat} (y : Fin (n + 1) → EReal) : ∃ k, IsFirst y k := by
  obtain ⟨k, hk⟩ := Finite.exists_max y
  have hne : (Finset.univ.filter fun j => y j = y k).Nonempty := ⟨k, by simp⟩
  refine ⟨(Finset.univ.filter fun j => y j = y k).min' hne, ?_, ?_⟩
  all_goals
    have hm := (Finset.mem_filter.1 (Finset.min'_mem _ hne)).2
    intro j
  · rw [hm]; exact hk j
  · intro hj
    rw [hm]
    refine lt_of_le_of_ne (hk j) fun e => ?_
    exact absurd (Finset.min'_le _ j (by simp [e])) (not_le.2 hj)

/-- A row whose last entry is minus infinity has its first greatest entry where the row without it has. -/
theorem IsFirst.snoc {n : Nat} {y : Fin (n + 1 + 1) → EReal} (hy : y (Fin.last _) = ⊥) {k : Fin (n + 1)}
    (hk : IsFirst (fun j => y j.castSucc) k) : IsFirst y k.castSucc := by
  refine ⟨fun j => ?_, fun j hj => ?_⟩
  · induction j using Fin.lastCases with
    | last => rw [hy]; exact bot_le
    | cast j => exact hk.1 j
  · induction j using Fin.lastCases with
    | last => exact absurd hj (not_lt.2 (Fin.le_last _))
    | cast j => exact hk.2 j (by simpa using hj)

/-- A left fold whose step takes one of its two operands, never a worse one by the order `R`, ends at the start or at an
    entry, and no entry nor the start is better than its end. -/
theorem foldl_best {ι α : Type} (R : α → α → Prop) (hr : ∀ a, R a a) (ht : ∀ a b c, R a b → R b c → R a c)
    (f : α → α → α) (hf : ∀ a b, (f a b = a ∨ f a b = b) ∧ R a (f a b) ∧ R b (f a b)) (x : ι → α) (l : List ι) (a : α) :
    (l.foldl (fun r i => f r (x i)) a = a ∨ ∃ i ∈ l, l.foldl (fun r i => f r (x i)) a = x i)
      ∧ R a (l.foldl (fun r i => f r (x i)) a) ∧ ∀ i ∈ l, R (x i) (l.foldl (fun r i => f r (x i)) a) := by
  induction l generalizing a with
  | nil => exact ⟨.inl rfl, hr a, fun i hi => nomatch hi⟩
  | cons i l ih =>
    obtain ⟨h₁, h₂, h₃⟩ := ih (f a (x i))
    obtain ⟨g₁, g₂, g₃⟩ := hf a (x i)
    rw [List.foldl_cons]
    refine ⟨?_, ht _ _ _ g₂ h₂, ?_⟩
    · rcases h₁ with h₁ | ⟨j, hj, h₁⟩
      · rcases g₁ with g₁ | g₁
        · exact .inl (h₁.trans g₁)
        · exact .inr ⟨i, List.mem_cons_self, h₁.trans g₁⟩
      · exact .inr ⟨j, List.mem_cons_of_mem _ hj, h₁⟩
    · intro j hj
      rcases List.mem_cons.1 hj with rfl | hj
      · exact ht _ _ _ g₃ h₂
      · exact h₃ j hj

section Fold

variable {s t : Shape} {a : Fin s.rank} {α : Type}

/-- The same for a reduction along one axis, at one place `j` of its result: the entries are those of `j`'s row. -/
theorem reduceFold_best (h : s.Reduces [a] t) (R : α → α → Prop) (hr : ∀ a, R a a) (ht : ∀ a b c, R a b → R b c → R a c)
    (f : α → α → α) (hf : ∀ a b, (f a b = a ∨ f a b = b) ∧ R a (f a b) ∧ R b (f a b)) (x : s.Idx → α) (z : α) (j : t.Idx) :
    (reduceFold h f z x j = z ∨ ∃ k : Fin (s.size a), reduceFold h f z x j = x (h.lift j k))
      ∧ R z (reduceFold h f z x j) ∧ ∀ k : Fin (s.size a), R (x (h.lift j k)) (reduceFold h f z x j) := by
  rw [reduceFold_eq_foldl]
  obtain ⟨h₁, h₂, h₃⟩ := foldl_best R hr ht f hf x
    (((List.finRange s.numel).map s.rowMajor.symm).filter fun i => h.drop i = j) z
  refine ⟨?_, h₂, fun k => h₃ _ ?_⟩
  · rcases h₁ with h₁ | ⟨i, hi, h₁⟩
    · exact .inl h₁
    · have hd : h.drop i = j := by simpa using (List.mem_filter.1 hi).2
      exact .inr ⟨i a, by rw [h₁, ← hd, h.lift_drop]⟩
  · refine List.mem_filter.2 ⟨?_, by simp [h.drop_lift]⟩
    exact List.mem_map.2 ⟨s.rowMajor (h.lift j k), List.mem_finRange _, by simp⟩

/-- A float maximum along one axis, from minus infinity, is the row's entry at its first greatest place. -/
theorem max_eq {φ : FTy} (h : s.Reduces [a] t) (src : FVec Ideal s φ) (acc : BitVec φ.bits) (hφ : FKind.Formats φ)
    (hacc : acc = FKind.maximumf.neutral φ hφ) (hb : (FloatOps.ofBits φ acc : Ideal φ) = (⊥ : EReal)) (j : t.Idx)
    {k : Fin (s.size a)} (hk : IsFirst (fun k => (src (h.lift j k) : EReal)) k) :
    (multiReduction .maximumf [a] t src acc h hφ hacc j : EReal) = src (h.lift j k) := by
  rw [multiReduction_maximumf_eq_reduceFold, hb]
  obtain ⟨h₁, -, h₃⟩ := reduceFold_best h (fun p r : EReal => p ≤ r) le_refl (fun _ _ _ => le_trans)
    (FloatOps.maximumf (F := Ideal) (φ := φ))
    (fun p q => ⟨max_choice p q, le_max_left p q, le_max_right p q⟩) src (⊥ : EReal) j
  refine le_antisymm ?_ (h₃ k)
  rcases h₁ with h₁ | ⟨i, h₁⟩
  · exact h₁.trans_le bot_le
  · exact h₁.trans_le (hk.1 i)

/-- A signed minimum along one axis, from the greatest word: the entry at `k`, if no entry is less. -/
theorem minsi_eq (h : s.Reduces [a] t) (src : IVec s 32) (acc : BitVec 32) (hacc : acc = IKind.minsi.neutral) (j : t.Idx)
    (k : Fin (s.size a)) (hk : ∀ i, (src (h.lift j k)).toInt ≤ (src (h.lift j i)).toInt) :
    multiReductionI .minsi [a] t src acc h hacc j = src (h.lift j k) := by
  rw [multiReductionI_eq_reduceFold]
  obtain ⟨h₁, h₂, h₃⟩ := reduceFold_best h (fun p r : BitVec 32 => r.toInt ≤ p.toInt) (fun _ => le_refl _)
    (fun _ _ _ g g' => le_trans g' g) IKind.minsi.op
    (fun p q => by
      have e := SortNet.toInt_minsi p q
      refine ⟨?_, ?_, ?_⟩
      · show IntOp.minsi p q = p ∨ IntOp.minsi p q = q
        unfold IntOp.minsi; split
        · exact .inl rfl
        · exact .inr rfl
      · exact e.trans_le (min_le_left _ _)
      · exact e.trans_le (min_le_right _ _)) src acc j
  refine BitVec.eq_of_toInt_eq (le_antisymm (h₃ k) ?_)
  rcases h₁ with h₁ | ⟨i, h₁⟩
  · rw [h₁, hacc]
    have := BitVec.toInt_lt (x := src (h.lift j k))
    have e : (IKind.minsi.neutral : BitVec 32).toInt = 2 ^ 31 - 1 := by decide
    omega
  · rw [h₁]; exact hk i

end Fold

end Cert.Best
-- ==== Proof.Choice.lean ====
module

public import proofs.«01_k».proof.Proof.Best
public import proofs.«01_k».proof.Proof.RefRun
public import proofs.«01_k».proof.Proof.Gen.KernelIdeal.Skeleton
public import Idealize.ShloMosaic.Lib.ValueLayoutCasts
public import Idealize.ShloMosaic.Lib.Pointwise

@[expose] public section

set_option maxRecDepth 16384

noncomputable section

/-! The choice of a row's greatest entry, as the kernel makes it (the maximum, then the least place that holds it) and as
the reference makes it (one fold over pairs of an entry and its place): both give the first greatest place. -/

namespace Cert.Choice

open Idealize.ShloMosaic Cert.Best

/-- The two-axis index a coordinate along the second axis is inserted into. -/
theorem lift_eq {n k : Nat} (h : (⟨2, ![n, k]⟩ : Shape).Reduces [1] ⟨1, ![n]⟩) (r : Fin n) (c : Fin k) :
    h.lift (ix1 r) c = ix2 r c := by
  funext b
  apply Fin.ext
  refine (h.lift_val _ _ _).trans ?_
  match b with
  | ⟨0, _⟩ => rfl
  | ⟨1, _⟩ => rfl

/-- The word of a place below fifty-two, as an integer. -/
theorem toInt_small {n : Nat} (hn : n < 52) : (BitVec.ofNat 32 n).toInt = n := by
  rw [BitVec.toInt_eq_toNat_of_lt (by rw [BitVec.toNat_ofNat]; omega), BitVec.toNat_ofNat, Nat.mod_eq_of_lt (by omega)]

/-- A list of entries read as a column. -/
theorem cast_column {n : Nat} {α : Type} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  ValueIdx.shapeCast_a_a1_apply x h r u

/-- A column spread over the columns of a matrix. -/
theorem spread_column {n k : Nat} {α : Type} (x : (⟨2, ![n, 1]⟩ : Shape).Idx → α)
    (h : (⟨2, ![n, 1]⟩ : Shape).Broadcasts ⟨2, ![n, k]⟩) (r : Fin n) (c : Fin k) :
    broadcastTo ⟨2, ![n, k]⟩ x h (ix2 r c) = x (ix2 r 0) := by
  refine congrArg x (funext fun a => Fin.ext ?_)
  match a with
  | ⟨0, _⟩ =>
    by_cases h1 : n = 1
    · subst h1
      have := r.isLt
      show _ = r.val
      simp
    · simp [h1]
  | ⟨1, _⟩ => rfl

/-- A choice by the word of a decided proposition. -/
theorem select_decide (p : Prop) [Decidable p] {α : Type} (y z : α) :
    Scalar.select (BitVec.ofBool (decide p)) y z = if p then y else z := by
  by_cases hp : p <;> simp [hp, Scalar.select]

/-- The places of a block's row that hold its greatest entry, the others marked by fifty. -/
theorem mark_row (x : FVec Ideal KernelIdeal.S1024x50 .f32) (mx : FVec Ideal KernelIdeal.S1024 .f32) (r : Fin 1024)
    (k c : Fin 50) (hm : mx (ix1 r) = x (ix2 r k)) :
    select (cmpf .oeq x (broadcastTo KernelIdeal.S1024x50
        (shapeCast KernelIdeal.S1024x1 mx KernelIdeal.Gen.shapeCasts_S1024_S1024x1)
          KernelIdeal.Gen.broadcasts_S1024x1_S1024x50))
        (iota .tc KernelIdeal.S1024x50 32 [1] KernelIdeal.Gen.iota_S1024x50_d1_w32) (broadcast KernelIdeal.S1024x50 50#32) (ix2 r c)
      = if (x (ix2 r c) : EReal) = x (ix2 r k) then BitVec.ofNat 32 c.val else 50#32 := by
  have hb : broadcastTo KernelIdeal.S1024x50 (shapeCast KernelIdeal.S1024x1 mx KernelIdeal.Gen.shapeCasts_S1024_S1024x1)
      KernelIdeal.Gen.broadcasts_S1024x1_S1024x50 (ix2 r c) = x (ix2 r k) :=
    (spread_column _ _ r c).trans ((cast_column mx _ r 0).trans hm)
  have hi : iota .tc KernelIdeal.S1024x50 32 [1] KernelIdeal.Gen.iota_S1024x50_d1_w32 (ix2 r c) = BitVec.ofNat 32 c.val :=
    congrArg (BitVec.ofNat 32) (by show 0 * 50 + c.val = c.val; omega)
  refine Eq.trans ?_ (select_decide ((x (ix2 r c) : EReal) = x (ix2 r k)) _ _)
  rw [← hb, ← hi]
  rfl

/-- The least of a row's marks, its first greatest place. -/
theorem least_mark (y : Fin 50 → EReal) {k : Fin 50} (hk : IsFirst y k) (src : IVec KernelIdeal.S1024x50 32) (r : Fin 1024)
    (hs : ∀ c : Fin 50, src (ix2 r c) = if y c = y k then BitVec.ofNat 32 c.val else 50#32) :
    multiReductionI .minsi [1] KernelIdeal.S1024 src 2147483647#32 KernelIdeal.Gen.reduces_S1024x50_S1024 rfl (ix1 r)
      = BitVec.ofNat 32 k.val := by
  have hl : ∀ c : Fin 50, src (KernelIdeal.Gen.reduces_S1024x50_S1024.lift (ix1 r) c)
      = if y c = y k then BitVec.ofNat 32 c.val else 50#32 := fun c => (congrArg src (lift_eq _ r c)).trans (hs c)
  refine (minsi_eq KernelIdeal.Gen.reduces_S1024x50_S1024 src _ rfl (ix1 r) k fun i => ?_).trans ((hl k).trans (if_pos rfl))
  have e := (hl k).trans (if_pos rfl)
  refine le_of_eq_of_le (congrArg BitVec.toInt e) (le_of_le_of_eq ?_ (congrArg BitVec.toInt (hl i)).symm)
  have hi : i.val < 50 := i.isLt
  rw [toInt_small (by omega)]
  split
  · rename_i hy
    rw [toInt_small (by omega)]
    by_contra hlt
    exact absurd hy (hk.2 i (Fin.lt_def.2 (by omega))).ne
  · rw [toInt_small (by omega)]; omega

/-- The kernel's choice in row `r` of a block is the first greatest place. -/
theorem kernel_choice (x : FVec Ideal KernelIdeal.S1024x50 .f32) (r : Fin 1024) (u : Fin 1) {k : Fin 50}
    (hk : IsFirst (fun j : Fin 50 => (x (ix2 r j) : EReal)) k) :
    KernelIdeal.Gen.k0_pay1 (F := Ideal) x (ix2 r u) = BitVec.ofNat 32 k.val := by
  have hl : ∀ c : Fin 50, KernelIdeal.Gen.reduces_S1024x50_S1024.lift (ix1 r) c = ix2 r c := lift_eq _ r
  have hf : (fun c : Fin 50 => (x (KernelIdeal.Gen.reduces_S1024x50_S1024.lift (ix1 r) c) : EReal))
      = fun j : Fin 50 => (x (ix2 r j) : EReal) := funext fun c => congrArg x (hl c)
  have hm := max_eq KernelIdeal.Gen.reduces_S1024x50_S1024 x 0xFF800000#32 (.inl rfl) rfl (by simp [Ideal.ofBits, Ideal.ieee])
    (ix1 r) (k := k) (hf ▸ hk)
  unfold KernelIdeal.Gen.k0_pay1
  refine (cast_column _ _ r u).trans ?_
  refine least_mark (fun j => x (ix2 r j)) hk _ r fun c => ?_
  refine mark_row x _ r k c ?_
  exact hm.trans (congrArg x (hl k))

/-- One pair is at least as good a choice as another: its entry is greater, or equal and its place no later. -/
def Better (p r : EReal × BitVec 32) : Prop := p.1 < r.1 ∨ (p.1 = r.1 ∧ r.2.toInt ≤ p.2.toInt)

/-- The order of choices is transitive. -/
theorem better_trans (p q r : EReal × BitVec 32) (h : Better p q) (h' : Better q r) : Better p r := by
  rcases h with h | ⟨h, g⟩
  · rcases h' with h' | ⟨h', -⟩
    · exact .inl (h.trans h')
    · exact .inl (h.trans_eq h')
  · rcases h' with h' | ⟨h', g'⟩
    · exact .inl (h.trans_lt h')
    · exact .inr ⟨h.trans h', g'.trans g⟩

/-- The reference's step takes one of its two pairs, the better one. -/
theorem reducer_best (a b : EReal × BitVec 32) :
    (ReferenceIdeal.reducer_argmax_f32_i32 (F := Ideal) a b = a ∨ ReferenceIdeal.reducer_argmax_f32_i32 (F := Ideal) a b = b)
      ∧ Better a (ReferenceIdeal.reducer_argmax_f32_i32 (F := Ideal) a b)
      ∧ Better b (ReferenceIdeal.reducer_argmax_f32_i32 (F := Ideal) a b) := by
  obtain ⟨a, i⟩ := a
  obtain ⟨b, j⟩ := b
  have hor : ∀ p q : Prop, ∀ [Decidable p] [Decidable q],
      IntOp.ori (BitVec.ofBool (decide p)) (BitVec.ofBool (decide q)) = BitVec.ofBool (decide (p ∨ q)) := by
    intro p q _ _
    by_cases hp : p <;> by_cases hq : q <;> simp [hp, hq, IntOp.ori]
  have hand : ∀ p q : Prop, ∀ [Decidable p] [Decidable q],
      IntOp.andi (BitVec.ofBool (decide p)) (BitVec.ofBool (decide q)) = BitVec.ofBool (decide (p ∧ q)) := by
    intro p q _ _
    by_cases hp : p <;> by_cases hq : q <;> simp [hp, hq, IntOp.andi]
  have hstep : ReferenceIdeal.reducer_argmax_f32_i32 (F := Ideal) (a, i) (b, j)
      = (if b < a then a else b, if b < a ∨ (a = b ∧ i.toInt < j.toInt) then i else j) := by
    unfold ReferenceIdeal.reducer_argmax_f32_i32
    simp only [Ideal.cmpf_def, Ideal.cmp, IntOp.cmpi, BitVec.slt]
    rw [hor, hand, hor, select_decide, select_decide]
    simp
  rw [hstep]
  unfold Better
  rcases lt_trichotomy a b with h | h | h
  · have h' := not_lt.2 h.le
    simp [h, h', h.ne]
  · subst h
    by_cases hij : i.toInt < j.toInt
    · simp [hij, hij.le]
    · simp [hij, not_lt.1 hij]
  · simp [h]

/-- The reference's choice in row `r` is the first greatest place. -/
theorem reference_choice (x : FVec Ideal ReferenceIdeal.S16384x51 .f32) (r : Fin 16384) (u : Fin 1) {k : Fin 51}
    (hk : IsFirst (fun j : Fin 51 => (x (ix2 r j) : EReal)) k) :
    ReferenceIdeal.Line.pick x (ix2 r u) = BitVec.ofNat 32 k.val := by
  have h : ReferenceIdeal.S16384x51.Reduces [1] ReferenceIdeal.S16384 := by decide
  have hl : ∀ c : Fin 51, h.lift (ix1 r) c = ix2 r c := lift_eq _ r
  unfold ReferenceIdeal.Line.pick
  have e : ∀ f : ReferenceIdeal.S16384.Idx → BitVec 32,
      broadcastInDim ReferenceIdeal.S16384x1 ![0] ReferenceIdeal.Gen.bcast_S16384_S16384x1_0 f (ix2 r u) = f (ix1 r) := by
    intro f
    refine congrArg f (funext fun b => ?_)
    match b with
    | ⟨0, _⟩ => rfl
  rw [e, Ideal.argReduce_eq_reduce2, Host.reduce2_eq_foldl_fiber]
  have hz : (constant ReferenceIdeal.S_ .f32 0xFF800000#32 : FVec Ideal _ _) (Shape.Idx.first ReferenceIdeal.Gen.h_S_)
      = (⊥ : EReal) := by simp [constant, Ideal.ofBits, Ideal.ieee]
  rw [hz]
  obtain ⟨h₁, -, h₃⟩ := foldl_best Better (fun _ => .inr ⟨rfl, le_refl _⟩) better_trans
    (ReferenceIdeal.reducer_argmax_f32_i32 (F := Ideal)) reducer_best id
    (Host.argReduceFiber x (iotaInDim ReferenceIdeal.S16384x51 32 1) ReferenceIdeal.Gen.reducesTo_S16384x51_S16384_d1 (ix1 r))
    ((⊥ : EReal), constantI ReferenceIdeal.S_ 32 0#32 (Shape.Idx.first ReferenceIdeal.Gen.h_S_))
  simp only [id] at h₁ h₃
  have hmem : ∀ c : Fin 51, ((x (ix2 r c) : EReal), BitVec.ofNat 32 c.val) ∈ Host.argReduceFiber x
      (iotaInDim ReferenceIdeal.S16384x51 32 1) ReferenceIdeal.Gen.reducesTo_S16384x51_S16384_d1 (ix1 r) := fun c =>
    List.mem_map.2 ⟨ReferenceIdeal.S16384x51.rowMajor (ix2 r c), List.mem_filter.2 ⟨List.mem_finRange _, by
      rw [Equiv.symm_apply_apply, ← hl c]; exact decide_eq_true (h.drop_lift (ix1 r) c)⟩, by rw [Equiv.symm_apply_apply]; rfl⟩
  have hof : ∀ p ∈ Host.argReduceFiber x (iotaInDim ReferenceIdeal.S16384x51 32 1)
      ReferenceIdeal.Gen.reducesTo_S16384x51_S16384_d1 (ix1 r), ∃ c : Fin 51, p = ((x (ix2 r c) : EReal), BitVec.ofNat 32 c.val) := by
    intro p hp
    obtain ⟨n, hn, rfl⟩ := List.mem_map.1 hp
    have hd : h.drop (ReferenceIdeal.S16384x51.rowMajor.symm n) = ix1 r := of_decide_eq_true (List.mem_filter.1 hn).2
    have hi := h.lift_drop (ReferenceIdeal.S16384x51.rowMajor.symm n)
    rw [hd] at hi
    exact ⟨(ReferenceIdeal.S16384x51.rowMajor.symm n) 1, Prod.ext (congrArg x (hi.symm.trans (hl _))) rfl⟩
  have hb := h₃ _ (hmem k)
  rcases h₁ with h₁ | ⟨p, hp, h₁⟩
  · rw [h₁] at hb ⊢
    rcases hb with hb | ⟨hb, -⟩
    · exact absurd hb not_lt_bot
    · by_contra hne
      have hk0 : (0 : Fin 51) < k := Fin.pos_iff_ne_zero.2 fun h0 => hne (by rw [h0]; rfl)
      exact absurd ((hk.2 0 hk0).trans_eq hb) not_lt_bot
  · obtain ⟨c, rfl⟩ := hof p hp
    rw [h₁] at hb ⊢
    rcases hb with hb | ⟨hb, hc⟩
    · exact absurd hb (not_lt.2 (hk.1 c))
    · change (BitVec.ofNat 32 c.val).toInt ≤ (BitVec.ofNat 32 k.val).toInt at hc
      rw [toInt_small (by omega), toInt_small (by omega)] at hc
      rcases lt_or_eq_of_le (Fin.le_def.2 (by omega : c.val ≤ k.val)) with hlt | rfl
      · exact absurd hb (hk.2 c hlt).ne'
      · rfl

end Cert.Choice
-- ==== Proof.Score.lean ====
module

public import proofs.«01_k».proof.Proof.RefRun
public import proofs.«01_k».proof.Proof.Gen.KernelIdeal.Skeleton
public import Idealize.ShloMosaic.Lib.Pointwise

@[expose] public section

set_option maxRecDepth 16384

noncomputable section

/-! One score, of one row and one candidate, written out; the reference's logits and the kernel's block are made of
them. -/

namespace Cert.Score

open Idealize.ShloMosaic Cert.ReferenceIdeal

/-- The leaky rectifier. -/
def act (z : EReal) : EReal := if 0 ≤ z then z else Ideal.ofBits .f32 0x3E99999A#32 * z

variable (x0 : FVec Ideal S16384x32 .f32) (x1 : FVec Ideal S16384x50 .f32) (x2 : FVec Ideal S16384x50x4 .f32)
  (x3 : FVec Ideal S282x256 .f32) (x4 : FVec Ideal S256 .f32) (x5 : FVec Ideal S256x50 .f32) (x6 : FVec Ideal S50 .f32)

/-- Column `c` of row `R`'s hidden layer before the rectifier: the three groups of features against their rows of the
    weights, and the bias. -/
def hidden (R : Fin 16384) (c : Fin 256) : EReal :=
  (∑ k : Fin 32, x0 (ix2 R k) * x3 (ix2 (⟨k.val, by omega⟩ : Fin 282) c))
    + (∑ k : Fin 50, x1 (ix2 R k) * x3 (ix2 (⟨k.val + 32, by omega⟩ : Fin 282) c))
    + (∑ k : Fin 200, x2 (ix3 R (⟨k.val / 4, by omega⟩ : Fin 50) (⟨k.val % 4, by omega⟩ : Fin 4))
        * x3 (ix2 (⟨k.val + 82, by omega⟩ : Fin 282) c))
    + x4 (ix1 c)

/-- Row `R`'s score of candidate `j`. -/
def score (R : Fin 16384) (j : Fin 50) : EReal :=
  (∑ c : Fin 256, act (hidden x0 x1 x2 x3 x4 R c) * x5 (ix2 c j)) + x6 (ix1 j)

/-- A sum over the joined features is the sum of the three groups' sums. -/
theorem sum_joined (f : Fin 282 → EReal) :
    ∑ k, f k = (∑ k : Fin 32, f ⟨k.val, by omega⟩) + (∑ k : Fin 50, f ⟨k.val + 32, by omega⟩)
      + ∑ k : Fin 200, f ⟨k.val + 82, by omega⟩ := by
  refine (Fin.sum_univ_add (a := 82) (b := 200) f).trans ?_
  refine congrArg₂ (· + ·) ((Fin.sum_univ_add (a := 32) (b := 50) fun k => f (Fin.castAdd 200 k)).trans ?_) ?_
  · exact congrArg₂ (· + ·) rfl (Finset.sum_congr rfl fun k _ => congrArg f (Fin.ext (Nat.add_comm _ _)))
  · exact Finset.sum_congr rfl fun k _ => congrArg f (Fin.ext (Nat.add_comm _ _))

/-- The joined features against the weights, and the bias: the hidden layer. -/
theorem joined_eq_hidden (R : Fin 16384) (c : Fin 256) :
    (∑ d : Fin 282, (if h : d.val < 32 then x0 (ix2 R (⟨d.val, h⟩ : Fin 32))
        else if h' : d.val - 32 < 50 then x1 (ix2 R (⟨d.val - 32, h'⟩ : Fin 50))
        else x2 (ix3 R (⟨(d.val - 32 - 50) / 4, by omega⟩ : Fin 50) (⟨(d.val - 32 - 50) % 4, by omega⟩ : Fin 4)))
      * x3 (ix2 d c)) + x4 (ix1 c) = hidden x0 x1 x2 x3 x4 R c := by
  rw [sum_joined]
  refine congrArg (· + x4 (ix1 c)) (congrArg₂ (· + ·) (congrArg₂ (· + ·) ?_ ?_) ?_)
  all_goals refine Finset.sum_congr rfl fun k _ => congrArg (· * _) ?_
  · exact dif_pos k.isLt
  · have e : k.val + 32 - 32 = k.val := by omega
    simp [e]
  · have e : k.val + 82 - 32 - 50 = k.val := by omega
    have h1 : ¬ k.val + 82 < 32 := by omega
    have h2 : ¬ k.val + 82 - 32 < 50 := by omega
    simp only [h1, h2, e, dite_false]

set_option maxHeartbeats 1000000 in
/-- A reference logit of a candidate is its score. -/
theorem logits_score (R : Fin 16384) (j : Fin 50) :
    (Line.logits x0 x1 x2 x3 x4 x5 x6 (ix2 R (⟨j.val, by omega⟩ : Fin 51)) : EReal) = score x0 x1 x2 x3 x4 x5 x6 R j := by
  pointwise [Line.logits]
  simp only [joined_eq_hidden]
  rfl

set_option maxHeartbeats 1000000 in
/-- The reference's last logit is minus infinity. -/
theorem logits_last (R : Fin 16384) : (Line.logits x0 x1 x2 x3 x4 x5 x6 (ix2 R (⟨50, by omega⟩ : Fin 51)) : EReal) = ⊥ := by
  pointwise [Line.logits]
  simp [Ideal.ofBits, Ideal.ieee]

set_option maxHeartbeats 1000000 in
/-- The kernel's sum of score and noise in a block, from what its operands hold. -/
theorem block_score (v0 : FVec Ideal KernelIdeal.S1024x32 .f32) (v1 : FVec Ideal KernelIdeal.S32x256 .f32)
    (v4 : FVec Ideal KernelIdeal.S1024x50 .f32) (v5 : FVec Ideal KernelIdeal.S50x256 .f32)
    (v9 : FVec Ideal KernelIdeal.S1024x200 .f32) (v11 : FVec Ideal KernelIdeal.S200x256 .f32)
    (v15 : FVec Ideal KernelIdeal.S1x256 .f32) (v24 : FVec Ideal KernelIdeal.S256x50 .f32)
    (v26 : FVec Ideal KernelIdeal.S1x50 .f32) (v30 : FVec Ideal KernelIdeal.S1024x50 .f32) (r : Fin 1024) (R : Fin 16384)
    (h0 : ∀ k : Fin 32, (v0 (ix2 r k) : EReal) = x0 (ix2 R k))
    (h1 : ∀ (k : Fin 32) (c : Fin 256), (v1 (ix2 k c) : EReal) = x3 (ix2 (⟨k.val, by omega⟩ : Fin 282) c))
    (h4 : ∀ k : Fin 50, (v4 (ix2 r k) : EReal) = x1 (ix2 R k))
    (h5 : ∀ (k : Fin 50) (c : Fin 256), (v5 (ix2 k c) : EReal) = x3 (ix2 (⟨k.val + 32, by omega⟩ : Fin 282) c))
    (h9 : ∀ k : Fin 200, (v9 (ix2 r k) : EReal)
      = x2 (ix3 R (⟨k.val / 4, by omega⟩ : Fin 50) (⟨k.val % 4, by omega⟩ : Fin 4)))
    (h11 : ∀ (k : Fin 200) (c : Fin 256), (v11 (ix2 k c) : EReal) = x3 (ix2 (⟨k.val + 82, by omega⟩ : Fin 282) c))
    (h15 : ∀ c : Fin 256, (v15 (ix2 (0 : Fin 1) c) : EReal) = x4 (ix1 c))
    (h24 : ∀ (c : Fin 256) (j : Fin 50), (v24 (ix2 c j) : EReal) = x5 (ix2 c j))
    (h26 : ∀ j : Fin 50, (v26 (ix2 (0 : Fin 1) j) : EReal) = x6 (ix1 j)) (j : Fin 50) :
    (KernelIdeal.Gen.k0_pay2 (F := Ideal) v0 v1 v4 v5 v9 v11 v15 v24 v26 v30 (ix2 r j) : EReal)
      = score x0 x1 x2 x3 x4 x5 x6 R j + v30 (ix2 r j) := by
  pointwise [KernelIdeal.Gen.k0_pay2]
  simp only [h0, h1, h4, h5, h9, h11, h15, h24, h26]
  rfl

end Cert.Score
-- ==== Proof.RowChoice.lean ====
module

public import proofs.«01_k».proof.Proof.Choice
public import proofs.«01_k».proof.Proof.Score

@[expose] public section

set_option maxRecDepth 16384

noncomputable section

/-! One row: what the kernel chooses from a block is what the reference chooses from the arrays the block is cut from. -/

namespace Cert.RowChoice

open Idealize.ShloMosaic Cert.ReferenceIdeal Cert.Best

variable (x0 : FVec Ideal S16384x32 .f32) (x1 : FVec Ideal S16384x50 .f32) (x2 : FVec Ideal S16384x50x4 .f32)
  (x3 : FVec Ideal S282x256 .f32) (x4 : FVec Ideal S256 .f32) (x5 : FVec Ideal S256x50 .f32) (x6 : FVec Ideal S50 .f32)
  (g : FVec Ideal S16384x51 .f32)

/-- The kernel leaves the column of minus infinity out: the first greatest of the fifty sums is the first greatest of the
    reference's fifty-one. -/
theorem choice_of_rows (v0 : FVec Ideal KernelIdeal.S1024x32 .f32) (v1 : FVec Ideal KernelIdeal.S32x256 .f32)
    (v4 : FVec Ideal KernelIdeal.S1024x50 .f32) (v5 : FVec Ideal KernelIdeal.S50x256 .f32)
    (v9 : FVec Ideal KernelIdeal.S1024x200 .f32) (v11 : FVec Ideal KernelIdeal.S200x256 .f32)
    (v15 : FVec Ideal KernelIdeal.S1x256 .f32) (v24 : FVec Ideal KernelIdeal.S256x50 .f32)
    (v26 : FVec Ideal KernelIdeal.S1x50 .f32) (v30 : FVec Ideal KernelIdeal.S1024x50 .f32) (r : Fin 1024) (R : Fin 16384)
    (h0 : ∀ k : Fin 32, (v0 (ix2 r k) : EReal) = x0 (ix2 R k))
    (h1 : ∀ (k : Fin 32) (c : Fin 256), (v1 (ix2 k c) : EReal) = x3 (ix2 (⟨k.val, by omega⟩ : Fin 282) c))
    (h4 : ∀ k : Fin 50, (v4 (ix2 r k) : EReal) = x1 (ix2 R k))
    (h5 : ∀ (k : Fin 50) (c : Fin 256), (v5 (ix2 k c) : EReal) = x3 (ix2 (⟨k.val + 32, by omega⟩ : Fin 282) c))
    (h9 : ∀ k : Fin 200, (v9 (ix2 r k) : EReal)
      = x2 (ix3 R (⟨k.val / 4, by omega⟩ : Fin 50) (⟨k.val % 4, by omega⟩ : Fin 4)))
    (h11 : ∀ (k : Fin 200) (c : Fin 256), (v11 (ix2 k c) : EReal) = x3 (ix2 (⟨k.val + 82, by omega⟩ : Fin 282) c))
    (h15 : ∀ c : Fin 256, (v15 (ix2 (0 : Fin 1) c) : EReal) = x4 (ix1 c))
    (h24 : ∀ (c : Fin 256) (j : Fin 50), (v24 (ix2 c j) : EReal) = x5 (ix2 c j))
    (h26 : ∀ j : Fin 50, (v26 (ix2 (0 : Fin 1) j) : EReal) = x6 (ix1 j))
    (h30 : ∀ j : Fin 50, (v30 (ix2 r j) : EReal) = g (ix2 R (⟨j.val, by omega⟩ : Fin 51))) (u : Fin 1) :
    KernelIdeal.Gen.k0_pay1 (F := Ideal) (KernelIdeal.Gen.k0_pay2 v0 v1 v4 v5 v9 v11 v15 v24 v26 v30) (ix2 r u)
      = Line.pick (addf (Line.logits x0 x1 x2 x3 x4 x5 x6) g) (ix2 R u) := by
  have hs : ∀ j : Fin 50, (KernelIdeal.Gen.k0_pay2 (F := Ideal) v0 v1 v4 v5 v9 v11 v15 v24 v26 v30 (ix2 r j) : EReal)
      = addf (Line.logits x0 x1 x2 x3 x4 x5 x6) g (ix2 R j.castSucc) := fun j =>
    (Score.block_score x0 x1 x2 x3 x4 x5 x6 v0 v1 v4 v5 v9 v11 v15 v24 v26 v30 r R h0 h1 h4 h5 h9 h11 h15 h24 h26 j).trans
      (congrArg₂ (· + ·) (Score.logits_score x0 x1 x2 x3 x4 x5 x6 R j).symm (h30 j))
  have hlast : (addf (Line.logits x0 x1 x2 x3 x4 x5 x6) g (ix2 R (Fin.last 50)) : EReal) = ⊥ :=
    (congrArg (· + _) (Score.logits_last x0 x1 x2 x3 x4 x5 x6 R)).trans (EReal.bot_add _)
  generalize KernelIdeal.Gen.k0_pay2 (F := Ideal) v0 v1 v4 v5 v9 v11 v15 v24 v26 v30 = a at hs ⊢
  generalize addf (Line.logits x0 x1 x2 x3 x4 x5 x6) g = b at hs hlast ⊢
  obtain ⟨k, hk⟩ := exists_isFirst fun j : Fin 50 => (a (ix2 r j) : EReal)
  refine (Choice.kernel_choice a r u hk).trans (Choice.reference_choice b R u (k := k.castSucc) (IsFirst.snoc hlast ?_)).symm
  rwa [funext hs] at hk

end Cert.RowChoice
-- ==== Proof.Sim.lean ====
module

public import Idealize.ShloMosaic.Lib.StableHlo.Run

@[expose] public section

noncomputable section

/-! Two straight lines of host operations, of two programs with their own buffers, that run the same operations in the
same order: a pair of buffers that matching operations fill ends with the same contents. -/

namespace Cert.Sim

open Idealize.ShloMosaic Idealize.ShloMosaic.StableHlo

variable {τ τ' : Topo} {sig sig' : RefSig} {Val : EltTy → Type}

/-- The paired buffers hold the same contents. -/
def Agree (L : List (Ref sig .tc × Ref sig' .tc)) (V : Valuation τ sig Val) (W : Valuation τ' sig' Val) : Prop :=
  ∀ p ∈ L, HEq (V (Proc.devRef .tc p.1)) (W (Proc.devRef .tc p.2))

/-- From contents that agree on the pairs `L`, the two lines leave the same contents at `z` and `z'`. -/
def Sim (L : List (Ref sig .tc × Ref sig' .tc)) (ops : List (HloOp τ sig Val)) (ops' : List (HloOp τ' sig' Val))
    (z : Ref sig .tc) (z' : Ref sig' .tc) : Prop :=
  ∀ (V : Valuation τ sig Val) (W : Valuation τ' sig' Val), Agree L V W →
    HEq (after ops V (Proc.devRef .tc z)) (after ops' W (Proc.devRef .tc z'))

variable {L : List (Ref sig .tc × Ref sig' .tc)} {ops : List (HloOp τ sig Val)} {ops' : List (HloOp τ' sig' Val)}
  {z : Ref sig .tc} {z' : Ref sig' .tc}

/-- Agreement survives two operations that write a fresh pair with the same contents. -/
theorem Agree.step {V : Valuation τ sig Val} {W : Valuation τ' sig' Val} (h : Agree L V W)
    {op : HloOp τ sig Val} {op' : HloOp τ' sig' Val} {y : Ref sig .tc} {y' : Ref sig' .tc}
    (hw : op.writes = {Proc.devRef .tc y}) (hw' : op'.writes = {Proc.devRef .tc y'})
    (hf : ∀ p ∈ L, p.1 ≠ y) (hf' : ∀ p ∈ L, p.2 ≠ y')
    (hy : HEq (op.result V (Proc.devRef .tc y)) (op'.result W (Proc.devRef .tc y'))) :
    Agree ((y, y') :: L) (op.result V) (op'.result W) := by
  intro p hp
  rcases List.mem_cons.1 hp with rfl | hp
  · exact hy
  · rw [result_of_writes_ne op V y p.1 hw (hf p hp), result_of_writes_ne op' W y' p.2 hw' (hf' p hp)]
    exact h p hp

/-- `y` is the first buffer of no pair. -/
def freshL (L : List (Ref sig .tc × Ref sig' .tc)) (y : Ref sig .tc) : Bool := L.all fun p => !decide (p.1 = y)
/-- `y` is the second buffer of no pair. -/
def freshR (L : List (Ref sig .tc × Ref sig' .tc)) (y : Ref sig' .tc) : Bool := L.all fun p => !decide (p.2 = y)

/-- A test that passed says what it tests. -/
theorem of_freshL {L : List (Ref sig .tc × Ref sig' .tc)} {y : Ref sig .tc} (h : freshL L y = true) : ∀ p ∈ L, p.1 ≠ y := by
  simpa [freshL] using h
/-- The same of the second buffers. -/
theorem of_freshR {L : List (Ref sig .tc × Ref sig' .tc)} {y : Ref sig' .tc} (h : freshR L y = true) : ∀ p ∈ L, p.2 ≠ y := by
  simpa [freshR] using h

/-- Both lines over: the pair asked for is one of the pairs. -/
theorem Sim.done (h : (z, z') ∈ L) : Sim (τ := τ) (τ' := τ') (Val := Val) L [] [] z z' :=
  fun _ _ hA => hA _ h

/-- An operation of the first line alone, on a buffer of no pair. -/
theorem Sim.left {op : HloOp τ sig Val} (y : Ref sig .tc) (hw : op.writes = {Proc.devRef .tc y})
    (hf : freshL L y = true) (k : Sim L ops ops' z z') : Sim L (op :: ops) ops' z z' :=
  fun V W hA => k (op.result V) W fun p hp => by
    rw [result_of_writes_ne op V y p.1 hw (of_freshL hf p hp)]; exact hA p hp

/-- An operation of the second line alone, on a buffer of no pair. -/
theorem Sim.right {op' : HloOp τ' sig' Val} (y' : Ref sig' .tc) (hw : op'.writes = {Proc.devRef .tc y'})
    (hf : freshR L y' = true) (k : Sim L ops ops' z z') : Sim L ops (op' :: ops') z z' :=
  fun V W hA => k V (op'.result W) fun p hp => by
    rw [result_of_writes_ne op' W y' p.2 hw (of_freshR hf p hp)]; exact hA p hp

variable {a b y : Ref sig .tc} {a' b' y' : Ref sig' .tc}

/-- The same constant on both sides. -/
theorem Sim.nullary {v : y.ty.Contents Val} {v' : y'.ty.Contents Val} {hy hy'} (hv : HEq v v')
    (hf : freshL L y = true) (hf' : freshR L y' = true) (k : Sim ((y, y') :: L) ops ops' z z') :
    Sim L (StableHlo.nullary y v hy :: ops) (StableHlo.nullary y' v' hy' :: ops') z z' :=
  fun V W hA => k _ _ (hA.step (nullary_writes ..) (nullary_writes ..) (of_freshL hf) (of_freshR hf') (by
    rw [nullary_result, nullary_result]; exact hv))

/-- Equal functions at equal arguments, their types given as equal. -/
theorem heq_app {A A' B B' : Type} (hA : A = A') (hB : B = B') {f : A → B} {f' : A' → B'} (hf : HEq f f')
    {x : A} {x' : A'} (hx : HEq x x') : HEq (f x) (f' x') := by
  subst hA hB; cases hf; cases hx; rfl

/-- The same operation of one operand, at operands of a pair. -/
theorem Sim.unary {f : a.ty.Contents Val → y.ty.Contents Val} {f' : a'.ty.Contents Val → y'.ty.Contents Val}
    {ha hy ha' hy'} (hm : (a, a') ∈ L) (ta : a.ty = a'.ty) (ty : y.ty = y'.ty) (hff : HEq f f')
    (hf : freshL L y = true) (hf' : freshR L y' = true) (k : Sim ((y, y') :: L) ops ops' z z') :
    Sim L (StableHlo.unary a y f ha hy :: ops) (StableHlo.unary a' y' f' ha' hy' :: ops') z z' :=
  fun V W hA => k _ _ (hA.step (unary_writes ..) (unary_writes ..) (of_freshL hf) (of_freshR hf') (by
    rw [unary_result, unary_result]
    exact heq_app (congrArg (·.Contents Val) ta) (congrArg (·.Contents Val) ty) hff (hA _ hm)))

/-- The same operation of two operands, at operands of pairs. -/
theorem Sim.binary {f : a.ty.Contents Val → b.ty.Contents Val → y.ty.Contents Val}
    {f' : a'.ty.Contents Val → b'.ty.Contents Val → y'.ty.Contents Val} {ha hb hy ha' hb' hy'}
    (hm : (a, a') ∈ L) (hn : (b, b') ∈ L) (ta : a.ty = a'.ty) (tb : b.ty = b'.ty) (ty : y.ty = y'.ty) (hff : HEq f f')
    (hf : freshL L y = true) (hf' : freshR L y' = true) (k : Sim ((y, y') :: L) ops ops' z z') :
    Sim L (StableHlo.binary a b y f ha hb hy :: ops) (StableHlo.binary a' b' y' f' ha' hb' hy' :: ops') z z' :=
  fun V W hA => k _ _ (hA.step (binary_writes ..) (binary_writes ..) (of_freshL hf) (of_freshR hf') (by
    rw [binary_result, binary_result]
    exact heq_app (congrArg (·.Contents Val) tb) (congrArg (·.Contents Val) ty)
      (heq_app (congrArg (·.Contents Val) ta) (by rw [tb, ty]) hff (hA _ hm)) (hA _ hn)))

/-- A reshape's contents depend on the types and the operand only. -/
theorem heq_reshape {A A' B B' : BufTy} (hA : A = A') (hB : B = B') (he : A.elt = B.elt) (he' : A'.elt = B'.elt)
    (hn : A.shape.ShapeCasts B.shape) (hn' : A'.shape.ShapeCasts B'.shape) {x : A.Contents Val} {x' : A'.Contents Val}
    (hx : HEq x x') :
    HEq (fun i => he ▸ shapeCast B.shape x hn i : B.Contents Val) (fun i => he' ▸ shapeCast B'.shape x' hn' i : B'.Contents Val) := by
  subst hA hB; cases hx; rfl

/-- The same reshape, at operands of a pair. -/
theorem Sim.reshape {he hn ha hy he' hn' ha' hy'} (hm : (a, a') ∈ L) (ta : a.ty = a'.ty) (ty : y.ty = y'.ty)
    (hf : freshL L y = true) (hf' : freshR L y' = true) (k : Sim ((y, y') :: L) ops ops' z z') :
    Sim L (StableHlo.reshape (Val := Val) a y he hn ha hy :: ops)
      (StableHlo.reshape (Val := Val) a' y' he' hn' ha' hy' :: ops') z z' :=
  fun V W hA => k _ _ (hA.step (reshape_writes ..) (reshape_writes ..) (of_freshL hf) (of_freshR hf') (by
    rw [reshape_result, reshape_result]
    exact heq_reshape ta ty he he' hn hn' (hA _ hm)))

end Cert.Sim
-- ==== Proof.Noise.lean ====
module

public import proofs.«01_k».proof.Proof.Sim
public import proofs.«01_k».proof.Proof.RefLine
public import proofs.«01_k».proof.Proof.Gen.KernelIdeal.Launch

@[expose] public section

set_option maxRecDepth 16384

noncomputable section

namespace Cert.Noise

open Idealize.ShloMosaic Idealize.SL.Sem Idealize.ShloMosaic.StableHlo Cert.Sim

set_option maxHeartbeats 800000 in
/-- The kernel's host operations and the reference's draw the same noise, operation by operation. -/
theorem noise_sim : Sim [] (KernelIdeal.Gen.hostOps0 (F := Ideal))
    (ReferenceIdeal.Line.outerOps.1.1 ++ ReferenceIdeal.Line.noiseOps.1)
    KernelIdeal.main_call0_v11 ReferenceIdeal.main_v26 := by
  unfold KernelIdeal.Gen.hostOps0 ReferenceIdeal.Line.outerOps ReferenceIdeal.Line.pack ReferenceIdeal.Line.noiseOps
  simp only [List.cons_append, List.nil_append]
  iterate 4 refine Sim.left _ rfl rfl ?_
  iterate 22 refine Sim.right _ rfl rfl ?_
  repeat (first
    | ((with_reducible refine Sim.nullary ?_ ?_ ?_ ?_)
       exact HEq.rfl; decide +kernel; decide +kernel)
    | ((with_reducible refine Sim.unary ?_ ?_ ?_ ?_ ?_ ?_ ?_)
       decide +kernel; rfl; rfl; exact HEq.rfl; decide +kernel; decide +kernel)
    | ((with_reducible refine Sim.binary ?_ ?_ ?_ ?_ ?_ ?_ ?_ ?_ ?_)
       decide +kernel; decide +kernel; rfl; rfl; rfl; exact HEq.rfl; decide +kernel; decide +kernel)
    | ((with_reducible refine Sim.reshape ?_ ?_ ?_ ?_ ?_ ?_)
       decide +kernel; rfl; rfl; decide +kernel; decide +kernel))
  iterate 3 refine Sim.left _ rfl (by decide +kernel) ?_
  exact Sim.done (by decide +kernel)

end Cert.Noise
-- ==== Proof.Entry.lean ====
module

public import proofs.«01_k».proof.Proof.Noise
public import proofs.«01_k».proof.Proof.Gen.KernelIdeal.Frame
public import Idealize.ShloMosaic.Lib.StableHlo.RunRead

@[expose] public section

set_option maxRecDepth 16384

noncomputable section

/-! What the kernel's host operations leave for its grid: the arguments re-laid, and the noise. -/

namespace Cert.Entry

open Idealize.ShloMosaic Idealize.SL.Sem Idealize.ShloMosaic.StableHlo
open Cert.KernelIdeal Cert.KernelIdeal.Gen

variable (U : Valuation τ sig (Elt Ideal))

set_option maxHeartbeats 4000000 in
/-- The candidates' features, a row each. -/
theorem read_feats : (after (hostOps0 (F := Ideal)) U (Proc.devRef .tc main_call0_v0) : FVec Ideal S16384x200 .f32)
    = shapeCast S16384x200 (U (Proc.devRef .tc main_arg2)) shapeCasts_S16384x50x4_S16384x200 := by
  unfold hostOps0
  after_reads_simp
  rfl

set_option maxHeartbeats 4000000 in
/-- The first weights' rows for the user's features. -/
theorem read_w1u : (after (hostOps0 (F := Ideal)) U (Proc.devRef .tc main_call0_v1) : FVec Ideal S32x256 .f32)
    = extractStridedSlice S32x256 ![0, 0] (U (Proc.devRef .tc main_arg3)) slices_S282x256_S32x256_0_0 := by
  unfold hostOps0
  after_reads_simp
  rfl

set_option maxHeartbeats 4000000 in
/-- The first weights' rows for the qualities. -/
theorem read_w1q : (after (hostOps0 (F := Ideal)) U (Proc.devRef .tc main_call0_v2) : FVec Ideal S50x256 .f32)
    = extractStridedSlice S50x256 ![32, 0] (U (Proc.devRef .tc main_arg3)) slices_S282x256_S50x256_32_0 := by
  unfold hostOps0
  after_reads_simp
  rfl

set_option maxHeartbeats 4000000 in
/-- The first weights' rows for the candidates' features. -/
theorem read_w1f : (after (hostOps0 (F := Ideal)) U (Proc.devRef .tc main_call0_v3) : FVec Ideal S200x256 .f32)
    = extractStridedSlice S200x256 ![82, 0] (U (Proc.devRef .tc main_arg3)) slices_S282x256_S200x256_82_0 := by
  unfold hostOps0
  after_reads_simp
  rfl

set_option maxHeartbeats 4000000 in
/-- The first bias as one row. -/
theorem read_b1 : (after (hostOps0 (F := Ideal)) U (Proc.devRef .tc main_call0_v13) : FVec Ideal S1x256 .f32)
    = shapeCast S1x256 (U (Proc.devRef .tc main_arg4)) shapeCasts_S256_S1x256 := by
  unfold hostOps0
  after_reads_simp
  rfl

set_option maxHeartbeats 4000000 in
/-- The second bias as one row. -/
theorem read_b2 : (after (hostOps0 (F := Ideal)) U (Proc.devRef .tc main_call0_v14) : FVec Ideal S1x50 .f32)
    = shapeCast S1x50 (U (Proc.devRef .tc main_arg6)) shapeCasts_S50_S1x50 := by
  unfold hostOps0
  after_reads_simp
  rfl

set_option maxHeartbeats 4000000 in
/-- The noise's columns of the candidates. -/
theorem read_noise : (after (hostOps0 (F := Ideal)) U (Proc.devRef .tc main_call0_v12) : FVec Ideal S16384x50 .f32)
    = extractStridedSlice S16384x50 ![0, 0] (after (hostOps0 (F := Ideal)) U (Proc.devRef .tc main_call0_v11) : FVec Ideal S16384x51 .f32)
        slices_S16384x51_S16384x50_0_0 := by
  rw [← List.take_append_drop 281 (hostOps0 (F := Ideal)), after_append]
  generalize after (List.take 281 (hostOps0 (F := Ideal))) U = W
  unfold hostOps0
  simp only [List.drop_succ_cons, List.drop_zero]
  after_reads_simp
  rfl

/-- The noise the kernel draws is the noise the reference draws. -/
theorem noise_eq (W : Valuation ReferenceIdeal.τ ReferenceIdeal.sig (Elt Ideal)) :
    (after (hostOps0 (F := Ideal)) U (Proc.devRef .tc main_call0_v11) : FVec Ideal S16384x51 .f32)
      = after ReferenceIdeal.Line.noiseOps.1 (after ReferenceIdeal.Line.outerOps.1.1 W)
          (Proc.devRef .tc ReferenceIdeal.main_v26) := by
  rw [← after_append]
  exact eq_of_heq (Noise.noise_sim U W fun p hp => nomatch hp)

end Cert.Entry
-- ==== Proof.KernelValue.lean ====
module

public import proofs.«01_k».proof.Proof.RowChoice
public import proofs.«01_k».proof.Proof.Entry
public import proofs.«01_k».proof.Proof.Gen.KernelIdeal.Value
public import Idealize.ShloMosaic.Lib.Pipeline.ValueKit

@[expose] public section

set_option maxRecDepth 16384

noncomputable section

/-! The kernel's result array: what its sixteen blocks hold together is the reference's choice among the logits with the
noise. -/

namespace Cert.KernelValue

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (c : Dev nD)

/-- The array row of row `r` of grid point `t`'s block. -/
def row (t : Fin cfg0.N) (r : Fin 1024) : Fin 16384 := ⟨t.val * 1024 + r.val, by
  have hN : cfg0.N = 16 := N_0
  have := t.isLt
  omega⟩

/-- Where the windows whose blocks move down the rows stand. -/
theorem index_rows : ∀ t : Fin cfg0.N, (win0_0.index t = ![t.val, 0] ∧ win0_1.index t = ![t.val, 0] ∧ win0_2.index t = ![t.val, 0])
    ∧ win0_9.index t = ![t.val, 0] ∧ win0_10.index t = ![t.val, 0] :=
  (by decide +kernel : ∀ t : Fin grid0.N, (win0_0.index t = ![t.val, 0] ∧ win0_1.index t = ![t.val, 0] ∧ win0_2.index t = ![t.val, 0])
    ∧ win0_9.index t = ![t.val, 0] ∧ win0_10.index t = ![t.val, 0])

/-- The windows of the weights and biases stay on the whole array. -/
theorem index_whole : ∀ t : Fin cfg0.N, (win0_3.index t = ![0, 0] ∧ win0_4.index t = ![0, 0] ∧ win0_5.index t = ![0, 0])
    ∧ win0_6.index t = ![0, 0] ∧ win0_7.index t = ![0, 0] ∧ win0_8.index t = ![0, 0] :=
  (by decide +kernel : ∀ t : Fin grid0.N, (win0_3.index t = ![0, 0] ∧ win0_4.index t = ![0, 0] ∧ win0_5.index t = ![0, 0])
    ∧ win0_6.index t = ![0, 0] ∧ win0_7.index t = ![0, 0] ∧ win0_8.index t = ![0, 0])

section Blocks

variable (t : Fin cfg0.N) (r : Fin 1024)

/-- A block of users is rows of the users. -/
theorem block_user (k : Fin 32) : (iblk m c 0 t : FVec Ideal S1024x32 .f32) (ix2 r k)
    = (m ((c : Thread nD τ).loc main_arg0) : FVec Ideal S16384x32 .f32) (ix2 (row t r) k) := by
  refine Eq.trans ?_ (congrFun (V_main_arg0 m c) _)
  have e := (index_rows t).1.1
  blk_ext [iblk, e, row]

/-- A block of qualities is rows of the qualities. -/
theorem block_quality (k : Fin 50) : (iblk m c 1 t : FVec Ideal S1024x50 .f32) (ix2 r k)
    = (m ((c : Thread nD τ).loc main_arg1) : FVec Ideal S16384x50 .f32) (ix2 (row t r) k) := by
  refine Eq.trans ?_ (congrFun (V_main_arg1 m c) _)
  have e := (index_rows t).1.2.1
  blk_ext [iblk, e, row]

/-- A block of the candidates' features is rows of them, four features a candidate. -/
theorem block_feats (k : Fin 200) : (iblk m c 2 t : FVec Ideal S1024x200 .f32) (ix2 r k)
    = (m ((c : Thread nD τ).loc main_arg2) : FVec Ideal S16384x50x4 .f32)
        (ix3 (row t r) (⟨k.val / 4, by omega⟩ : Fin 50) (⟨k.val % 4, by omega⟩ : Fin 4)) := by
  refine Eq.trans ?_ ((congrFun (Entry.read_feats fun b => m (c, b)) (ix2 (row t r) k)).trans ?_)
  · have e := (index_rows t).1.2.2
    blk_ext [iblk, e, row]
  · pointwise

/-- The users' weights. -/
theorem block_w1u (k : Fin 32) (j : Fin 256) : (iblk m c 3 t : FVec Ideal S32x256 .f32) (ix2 k j)
    = (m ((c : Thread nD τ).loc main_arg3) : FVec Ideal S282x256 .f32) (ix2 (⟨k.val, by omega⟩ : Fin 282) j) := by
  refine Eq.trans ?_ ((congrFun (Entry.read_w1u fun b => m (c, b)) (ix2 k j)).trans ?_)
  · have e := (index_whole t).1.1
    blk_ext [iblk, e]
  · pointwise

/-- The qualities' weights. -/
theorem block_w1q (k : Fin 50) (j : Fin 256) : (iblk m c 4 t : FVec Ideal S50x256 .f32) (ix2 k j)
    = (m ((c : Thread nD τ).loc main_arg3) : FVec Ideal S282x256 .f32) (ix2 (⟨k.val + 32, by omega⟩ : Fin 282) j) := by
  refine Eq.trans ?_ ((congrFun (Entry.read_w1q fun b => m (c, b)) (ix2 k j)).trans ?_)
  · have e := (index_whole t).1.2.1
    blk_ext [iblk, e]
  · pointwise
    exact congrArg (fun d => (m ((c : Thread nD τ).loc main_arg3) : FVec Ideal S282x256 .f32) (ix2 d j))
      (Fin.ext (Nat.add_comm _ _))

/-- The candidates' weights. -/
theorem block_w1f (k : Fin 200) (j : Fin 256) : (iblk m c 5 t : FVec Ideal S200x256 .f32) (ix2 k j)
    = (m ((c : Thread nD τ).loc main_arg3) : FVec Ideal S282x256 .f32) (ix2 (⟨k.val + 82, by omega⟩ : Fin 282) j) := by
  refine Eq.trans ?_ ((congrFun (Entry.read_w1f fun b => m (c, b)) (ix2 k j)).trans ?_)
  · have e := (index_whole t).1.2.2
    blk_ext [iblk, e]
  · pointwise
    exact congrArg (fun d => (m ((c : Thread nD τ).loc main_arg3) : FVec Ideal S282x256 .f32) (ix2 d j))
      (Fin.ext (Nat.add_comm _ _))

/-- The first bias. -/
theorem block_b1 (j : Fin 256) : (iblk m c 6 t : FVec Ideal S1x256 .f32) (ix2 (0 : Fin 1) j)
    = (m ((c : Thread nD τ).loc main_arg4) : FVec Ideal S256 .f32) (ix1 j) := by
  refine Eq.trans ?_ ((congrFun (Entry.read_b1 fun b => m (c, b)) (ix2 (0 : Fin 1) j)).trans ?_)
  · have e := (index_whole t).2.1
    blk_ext [iblk, e]
  · pointwise

/-- The second weights. -/
theorem block_w2 (k : Fin 256) (j : Fin 50) : (iblk m c 7 t : FVec Ideal S256x50 .f32) (ix2 k j)
    = (m ((c : Thread nD τ).loc main_arg5) : FVec Ideal S256x50 .f32) (ix2 k j) := by
  refine Eq.trans ?_ (congrFun (V_main_arg5 m c) _)
  have e := (index_whole t).2.2.1
  blk_ext [iblk, e]

/-- The second bias. -/
theorem block_b2 (j : Fin 50) : (iblk m c 8 t : FVec Ideal S1x50 .f32) (ix2 (0 : Fin 1) j)
    = (m ((c : Thread nD τ).loc main_arg6) : FVec Ideal S50 .f32) (ix1 j) := by
  refine Eq.trans ?_ ((congrFun (Entry.read_b2 fun b => m (c, b)) (ix2 (0 : Fin 1) j)).trans ?_)
  · have e := (index_whole t).2.2.2
    blk_ext [iblk, e]
  · pointwise

/-- The noise's columns of the candidates are its first fifty. -/
theorem noise_columns (x : FVec Ideal S16384x51 .f32) (R : Fin 16384) (j : Fin 50) :
    extractStridedSlice S16384x50 ![0, 0] x slices_S16384x51_S16384x50_0_0 (ix2 R j) = x (ix2 R (⟨j.val, by omega⟩ : Fin 51)) := by
  pointwise

/-- Where a block of noise stands in the candidates' noise. -/
theorem emb_noise (j : Fin 50) : (win0_9.blk t).view.emb (ix2 r j) = ix2 (row t r) j := by
  have e := (index_rows t).2.1
  blk_ext [e, row]

/-- A block of any contents of the candidates' noise is rows of them. -/
theorem read_rows (f : (win0_9.blk t).view.ty.Contents (Elt Ideal)) (j : Fin 50) :
    (win0_9.blk t).view.read (Elt Ideal) f (ix2 r j) = f (ix2 (row t r) j) :=
  congrArg f (emb_noise t r j)

/-- A block of the candidates' noise is rows of it. -/
theorem block_columns (j : Fin 50) : (iblk m c 9 t : FVec Ideal S1024x50 .f32) (ix2 r j)
    = (V m c main_call0_v12 : FVec Ideal S16384x50 .f32) (ix2 (row t r) j) :=
  read_rows t r (V m c main_call0_v12) j

/-- A block of noise is rows of the noise, short of its last column. -/
theorem block_noise (j : Fin 50) : (iblk m c 9 t : FVec Ideal S1024x50 .f32) (ix2 r j)
    = (V m c main_call0_v11 : FVec Ideal S16384x51 .f32) (ix2 (row t r) (⟨j.val, by omega⟩ : Fin 51)) :=
  (block_columns m c t r j).trans ((congrFun (Entry.read_noise fun b => m (c, b)) (ix2 (row t r) j)).trans
    (noise_columns _ (row t r) j))

/-- Where a block's result stands in the array of results. -/
theorem emb_result (u : Fin 1) : (win0_10.blk t).view.emb (ix2 r u) = ix2 (row t r) u := by
  have e := (index_rows t).2.2
  blk_ext [e, row]

end Blocks

/-- The reference's logits of the kernel's arguments. -/
abbrev kernelLogits : FVec Ideal ReferenceIdeal.S16384x51 .f32 :=
  ReferenceIdeal.Line.logits (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What a grid point computes in a row is the reference's choice in the array's row. -/
theorem block_choice (t : Fin cfg0.N) (r : Fin 1024) (u : Fin 1) :
    k0_pay1 (F := Ideal) (k0_pay2 (iblk m c 0 t) (iblk m c 3 t) (iblk m c 1 t) (iblk m c 4 t) (iblk m c 2 t) (iblk m c 5 t)
      (iblk m c 6 t) (iblk m c 7 t) (iblk m c 8 t) (iblk m c 9 t)) (ix2 r u)
    = ReferenceIdeal.Line.pick (addf (F := Ideal) (s := ReferenceIdeal.S16384x51) (φ := .f32) (kernelLogits m c)
        (V m c main_call0_v11)) (ix2 (row t r) u) :=
  RowChoice.choice_of_rows _ _ _ _ _ _ _ _ _ _ _ _ _ _ _ _ _ _ r (row t r)
    (block_user m c t r) (block_w1u m c t) (block_quality m c t r) (block_w1q m c t) (block_feats m c t r) (block_w1f m c t)
    (block_b1 m c t) (block_w2 m c t) (block_b2 m c t) (block_noise m c t r) u

/-- The kernel's array of results: the reference's choice among its logits and the noise. -/
theorem final : (dats m 0 c).arrAt 10 cfg0.N
    = ReferenceIdeal.Line.pick (addf (F := Ideal) (s := ReferenceIdeal.S16384x51) (φ := .f32) (kernelLogits m c)
        (V m c main_call0_v11)) := by
  refine (dats m 0 c).arrAt_eq_of_covers 10 _ (by decide +kernel) fun t hf y => ?_
  blk_simp
  rw [after0_10]
  frame_out
  obtain ⟨r, u, rfl⟩ : ∃ (r : Fin 1024) (u : Fin 1), y = ix2 r u := ⟨y 0, y 1, (by funext a; match a with | ⟨0, _⟩ => rfl | ⟨1, _⟩ => rfl)⟩
  exact (block_choice m c t r u).trans (congrArg _ (emb_result t r u).symm)

end Cert.KernelValue
-- ==== Proof.Equal.lean ====
module

public import proofs.«01_k».proof.Proof.RefRun
public import proofs.«01_k».proof.Proof.RefFrame
public import proofs.«01_k».proof.Proof.KernelValue
public import Idealize.ShloMosaic.Lib.Claim

@[expose] public section

set_option maxRecDepth 16384

noncomputable section

/-! Kernel and reference, from the same arguments, end with the same array of choices. -/

namespace Cert.Equal

open Idealize.ShloMosaic Idealize.ShloMosaic.TcCoe Idealize.SL.Sem Idealize.ShloMosaic.StableHlo

/-- Equal arguments have equal logits. -/
theorem logits_eq {x0 y0 : FVec Ideal ReferenceIdeal.S16384x32 .f32} {x1 y1 : FVec Ideal ReferenceIdeal.S16384x50 .f32}
    {x2 y2 : FVec Ideal ReferenceIdeal.S16384x50x4 .f32} {x3 y3 : FVec Ideal ReferenceIdeal.S282x256 .f32}
    {x4 y4 : FVec Ideal ReferenceIdeal.S256 .f32} {x5 y5 : FVec Ideal ReferenceIdeal.S256x50 .f32}
    {x6 y6 : FVec Ideal ReferenceIdeal.S50 .f32}
    (h : x0 = y0 ∧ x1 = y1 ∧ x2 = y2 ∧ x3 = y3 ∧ x4 = y4 ∧ x5 = y5 ∧ x6 = y6) :
    ReferenceIdeal.Line.logits x0 x1 x2 x3 x4 x5 x6 = ReferenceIdeal.Line.logits y0 y1 y2 y3 y4 y5 y6 := by
  obtain ⟨rfl, rfl, rfl, rfl, rfl, rfl, rfl⟩ := h
  rfl

/-- The choice among equal logits with equal noise is the same. -/
theorem pick_eq {a b g k : FVec Ideal ReferenceIdeal.S16384x51 .f32} (h : a = b) (h' : g = k) :
    ReferenceIdeal.Line.pick (addf a g) = ReferenceIdeal.Line.pick (addf b k) := by
  rw [h, h']

/-- The two programs agree. -/
theorem algebraic : Cert.algebraic_KernelIdeal_ReferenceIdeal := by
  intro m g m' g' _ hagree
  refine ⟨fun c => (KernelIdeal.Gen.dats m 0 c).arrAt 10 KernelIdeal.cfg0.N, KernelIdeal.Value.run_blocks m g, ?_⟩
  refine (θ_run _ _ _).mono (fun r h c => ⟨?_, h.2.1 c⟩)
    (θ_run_and (ReferenceIdeal.Line.run_line m' g') (ReferenceIdeal.Line.frame m' g' trivial))
  refine (h.1 c ReferenceIdeal.main_v29).trans ((ReferenceIdeal.Line.read_result _).trans (Eq.trans ?_ (KernelValue.final m c).symm))
  exact pick_eq (logits_eq (hagree c)) (Entry.noise_eq _ _).symm

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    Cert.ReferenceIdeal.Line.frame, trivial, Cert.Equal.algebraic⟩

end Cert.Proof

end
